-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v105)) (v3 : (c : Dev Cert.KernelIdeal.nD) → Buf (Elt Ideal) ((c.tc : Thread Cert.KernelIdeal.nD Cert.KernelIdeal.τ).loc Cert.KernelIdeal.main_indices)) (v4 : (c : Dev Cert.KernelIdeal.nD) → Buf (Elt Ideal) ((c.tc : Thread Cert.KernelIdeal.nD Cert.KernelIdeal.τ).loc Cert.KernelIdeal.main_v123)) (v5 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_indices) = v3 c
          ∧ r.2.mem ((c.tc : Thread Cert.KernelIdeal.nD Cert.KernelIdeal.τ).loc Cert.KernelIdeal.main_v123) = v4 c
          ∧ r.2.mem ((c.tc : Thread Cert.KernelIdeal.nD Cert.KernelIdeal.τ).loc Cert.KernelIdeal.main_v124) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v128) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x3 : Shape := ⟨2, ![2048, 3]⟩
abbrev S2048x256 : Shape := ⟨2, ![2048, 256]⟩
abbrev S32768x3 : Shape := ⟨2, ![32768, 3]⟩
abbrev S32768x128 : Shape := ⟨2, ![32768, 128]⟩
abbrev S4x4 : Shape := ⟨2, ![4, 4]⟩
abbrev S256x256 : Shape := ⟨2, ![256, 256]⟩
abbrev S256 : Shape := ⟨1, ![256]⟩
abbrev S1x256 : Shape := ⟨2, ![1, 256]⟩
abbrev S256x2048 : Shape := ⟨2, ![256, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S3x3 : Shape := ⟨2, ![3, 3]⟩
abbrev S3x1 : Shape := ⟨2, ![3, 1]⟩
abbrev S3 : Shape := ⟨1, ![3]⟩
abbrev S1x3 : Shape := ⟨2, ![1, 3]⟩
abbrev S3x2048 : Shape := ⟨2, ![3, 2048]⟩
abbrev S2048x2 : Shape := ⟨2, ![2048, 2]⟩
abbrev S32768 : Shape := ⟨1, ![32768]⟩
abbrev S1x32768 : Shape := ⟨2, ![1, 32768]⟩
abbrev S2048x32768 : Shape := ⟨2, ![2048, 32768]⟩
abbrev S3x32768 : Shape := ⟨2, ![3, 32768]⟩
abbrev S2048x64 : Shape := ⟨2, ![2048, 64]⟩
abbrev S2048x64x1 : Shape := ⟨3, ![2048, 64, 1]⟩
abbrev S1 : Shape := ⟨1, ![1]⟩
abbrev S1x1x1 : Shape := ⟨3, ![1, 1, 1]⟩
abbrev S2048x64x128 : Shape := ⟨3, ![2048, 64, 128]⟩

abbrev nBuf : Space → Nat
  | .hbm => 206
  | .vmem => 8
  | .smem => 0
  | _ => 0

abbrev hbmTy0_0 (i : Nat) : BufTy := match i % 128 with
  | 0 => ⟨S2048x3, .f32⟩
  | 1 => ⟨S2048x3, .f32⟩
  | 2 => ⟨S2048x256, .f32⟩
  | 3 => ⟨S2048x256, .f32⟩
  | 4 => ⟨S32768x3, .f32⟩
  | 5 => ⟨S32768x128, .f32⟩
  | 6 => ⟨S4x4, .f32⟩
  | 7 => ⟨S256x256, .f32⟩
  | 8 => ⟨S256, .f32⟩
  | 9 => ⟨S1x256, .f32⟩
  | 10 => ⟨S2048x256, .f32⟩
  | 11 => ⟨S1x256, .f32⟩
  | 12 => ⟨S2048x256, .f32⟩
  | 13 => ⟨S256x2048, .f32⟩
  | 14 => ⟨S2048x2048, .f32⟩
  | 15 => ⟨S_, .f32⟩
  | 16 => ⟨S_, .f32⟩
  | 17 => ⟨S2048x2048, .f32⟩
  | 18 => ⟨S2048x2048, .f32⟩
  | 19 => ⟨S_, .f32⟩
  | 20 => ⟨S2048, .f32⟩
  | 21 => ⟨S_, .f32⟩
  | 22 => ⟨S2048, .f32⟩
  | 23 => ⟨S2048, .f32⟩
  | 24 => ⟨S2048x1, .f32⟩
  | 25 => ⟨S2048x2048, .f32⟩
  | 26 => ⟨S2048x2048, .f32⟩
  | 27 => ⟨S2048x2048, .f32⟩
  | 28 => ⟨S_, .f32⟩
  | 29 => ⟨S2048, .f32⟩
  | 30 => ⟨S2048x1, .f32⟩
  | 31 => ⟨S2048x2048, .f32⟩
  | 32 => ⟨S2048x2048, .f32⟩
  | 33 => ⟨S_, .f32⟩
  | 34 => ⟨S2048, .f32⟩
  | 35 => ⟨S_, .f32⟩
  | 36 => ⟨S2048, .f32⟩
  | 37 => ⟨S2048, .f32⟩
  | 38 => ⟨S1x2048, .f32⟩
  | 39 => ⟨S2048x2048, .f32⟩
  | 40 => ⟨S2048x2048, .f32⟩
  | 41 => ⟨S2048x2048, .f32⟩
  | 42 => ⟨S_, .f32⟩
  | 43 => ⟨S2048, .f32⟩
  | 44 => ⟨S1x2048, .f32⟩
  | 45 => ⟨S2048x2048, .f32⟩
  | 46 => ⟨S2048x2048, .f32⟩
  | 47 => ⟨S2048x2048, .f32⟩
  | 48 => ⟨S3x3, .f32⟩
  | 49 => ⟨S3x1, .f32⟩
  | 50 => ⟨S3, .f32⟩
  | 51 => ⟨S3x3, .f32⟩
  | 52 => ⟨S2048x3, .f32⟩
  | 53 => ⟨S1x3, .f32⟩
  | 54 => ⟨S2048x3, .f32⟩
  | 55 => ⟨S2048x3, .f32⟩
  | 56 => ⟨S2048x3, .f32⟩
  | 57 => ⟨S_, .f32⟩
  | 58 => ⟨S2048, .f32⟩
  | 59 => ⟨S2048x1, .f32⟩
  | 60 => ⟨S2048x3, .f32⟩
  | 61 => ⟨S_, .f32⟩
  | 62 => ⟨S2048, .f32⟩
  | 63 => ⟨S1x2048, .f32⟩
  | 64 => ⟨S2048x2048, .f32⟩
  | 65 => ⟨S2048x2048, .f32⟩
  | 66 => ⟨S2048x2048, .f32⟩
  | 67 => ⟨S3x2048, .f32⟩
  | 68 => ⟨S2048x2048, .f32⟩
  | 69 => ⟨S_, .f32⟩
  | 70 => ⟨S2048x2048, .f32⟩
  | 71 => ⟨S2048x2048, .f32⟩
  | 72 => ⟨S2048x2048, .f32⟩
  | 73 => ⟨S_, .f32⟩
  | 74 => ⟨S_, .f32⟩
  | 75 => ⟨S2048x2048, .f32⟩
  | 76 => ⟨S2048x2048, .f32⟩
  | 77 => ⟨S2048x2048, .f32⟩
  | 78 => ⟨S_, .f32⟩
  | 79 => ⟨S2048x2048, .f32⟩
  | 80 => ⟨S2048x2048, .f32⟩
  | 81 => ⟨S_, .f32⟩
  | 82 => ⟨S_, .f32⟩
  | 83 => ⟨S2048x2048, .f32⟩
  | 84 => ⟨S2048x2048, .f32⟩
  | 85 => ⟨S2048x2048, .f32⟩
  | 86 => ⟨S2048x2048, .f32⟩
  | 87 => ⟨S_, .f32⟩
  | 88 => ⟨S2048x2048, .f32⟩
  | 89 => ⟨S2048x2048, .f32⟩
  | 90 => ⟨S_, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S2048x2048, .i32⟩
  | 101 => ⟨S_, .f32⟩
  | 102 => ⟨S_, .i32⟩
  | 103 => ⟨S2048, .f32⟩
  | 104 => ⟨S2048, .i32⟩
  | 105 => ⟨S2048x2048, .i32⟩
  | 106 => ⟨S_, .f32⟩
  | 107 => ⟨S_, .i32⟩
  | 108 => ⟨S2048, .f32⟩
  | 109 => ⟨S2048, .i32⟩
  | 110 => ⟨S_, .i1⟩
  | 111 => ⟨S2048x2048, .i1⟩
  | 112 => ⟨S2048, .i32⟩
  | 113 => ⟨S_, .i32⟩
  | 114 => ⟨S2048, .i32⟩
  | 115 => ⟨S2048, .i1⟩
  | 116 => ⟨S_, .i32⟩
  | 117 => ⟨S2048, .i32⟩
  | 118 => ⟨S2048, .i32⟩
  | 119 => ⟨S2048, .i32⟩
  | 120 => ⟨S_, .i32⟩
  | 121 => ⟨S2048, .i32⟩
  | 122 => ⟨S2048, .i1⟩
  | 123 => ⟨S_, .i32⟩
  | 124 => ⟨S2048, .i32⟩
  | 125 => ⟨S2048, .i32⟩
  | 126 => ⟨S2048, .i32⟩
  | 127 => ⟨S2048x1, .i32⟩
  | _ => ⟨S2048x3, .f32⟩

abbrev hbmTy0_1 (i : Nat) : BufTy := match i % 128 with
  | 0 => ⟨S2048x1, .i32⟩
  | 1 => ⟨S2048x2, .i32⟩
  | 2 => ⟨S_, .i1⟩
  | 3 => ⟨S2048, .i1⟩
  | 4 => ⟨S2048x2048, .i1⟩
  | 5 => ⟨S_, .i1⟩
  | 6 => ⟨S2048x2048, .i1⟩
  | 7 => ⟨S2048, .i32⟩
  | 8 => ⟨S_, .i32⟩
  | 9 => ⟨S2048, .i32⟩
  | 10 => ⟨S2048, .i1⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S2048x1, .i32⟩
  | 24 => ⟨S2048x2, .i32⟩
  | 25 => ⟨S_, .i1⟩
  | 26 => ⟨S2048, .i1⟩
  | 27 => ⟨S2048x2048, .i1⟩
  | 28 => ⟨S2048x2048, .i1⟩
  | 29 => ⟨S2048x3, .f32⟩
  | 30 => ⟨S_, .f32⟩
  | 31 => ⟨S2048, .f32⟩
  | 32 => ⟨S2048x1, .f32⟩
  | 33 => ⟨S32768x3, .f32⟩
  | 34 => ⟨S_, .f32⟩
  | 35 => ⟨S32768, .f32⟩
  | 36 => ⟨S1x32768, .f32⟩
  | 37 => ⟨S2048x32768, .f32⟩
  | 38 => ⟨S2048x32768, .f32⟩
  | 39 => ⟨S2048x32768, .f32⟩
  | 40 => ⟨S3x32768, .f32⟩
  | 41 => ⟨S2048x32768, .f32⟩
  | 42 => ⟨S_, .f32⟩
  | 43 => ⟨S2048x32768, .f32⟩
  | 44 => ⟨S2048x32768, .f32⟩
  | 45 => ⟨S2048x32768, .f32⟩
  | 46 => ⟨S_, .f32⟩
  | 47 => ⟨S_, .f32⟩
  | 48 => ⟨S2048x32768, .f32⟩
  | 49 => ⟨S2048x32768, .f32⟩
  | 50 => ⟨S2048x32768, .f32⟩
  | 51 => ⟨S2048x32768, .f32⟩
  | 52 => ⟨S2048x64, .f32⟩
  | 53 => ⟨S2048x64, .i32⟩
  | 54 => ⟨S2048x64, .f32⟩
  | 55 => ⟨S_, .i32⟩
  | 56 => ⟨S2048x64, .i32⟩
  | 57 => ⟨S2048x64, .i1⟩
  | 58 => ⟨S_, .i32⟩
  | 59 => ⟨S2048x64, .i32⟩
  | 60 => ⟨S2048x64, .i32⟩
  | 61 => ⟨S2048x64, .i32⟩
  | 62 => ⟨S2048x64x1, .i32⟩
  | 63 => ⟨S1, .i32⟩
  | 64 => ⟨S_, .i32⟩
  | 65 => ⟨S2048x64x1, .i32⟩
  | 66 => ⟨S2048x64x1, .i1⟩
  | 67 => ⟨S1x1x1, .i32⟩
  | 68 => ⟨S2048x64x1, .i32⟩
  | 69 => ⟨S2048x64x1, .i1⟩
  | 70 => ⟨S2048x64x1, .i1⟩
  | 71 => ⟨S_, .i1⟩
  | 72 => ⟨S2048x64, .i1⟩
  | 73 => ⟨S2048x64x128, .f32⟩
  | 74 => ⟨S2048x64x128, .i1⟩
  | 75 => ⟨S_, .f32⟩
  | 76 => ⟨S2048x64x128, .f32⟩
  | 77 => ⟨S2048x64x128, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S256x256, .f32⟩
  | .local _ .vmem, ⟨2, _⟩ => ⟨S1x256, .f32⟩
  | .local _ .vmem, ⟨3, _⟩ => ⟨S2048x256, .f32⟩
  | .local _ .vmem, ⟨4, _⟩ => ⟨S2048x256, .f32⟩
  | .local _ .vmem, ⟨5, _⟩ => ⟨S256x256, .f32⟩
  | .local _ .vmem, ⟨6, _⟩ => ⟨S1x256, .f32⟩
  | .local _ .vmem, ⟨7, _⟩ => ⟨S2048x256, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_call0_v0 : Ref sig .tc := ⟨.hbm, 74, rfl⟩
abbrev main_call0_v1 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_call1_v0 : Ref sig .tc := ⟨.hbm, 82, rfl⟩
abbrev main_call1_v1 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call2_cst : Ref sig .tc := ⟨.hbm, 97, rfl⟩
abbrev main_call2_v0 : Ref sig .tc := ⟨.hbm, 98, rfl⟩
abbrev main_v68 : Ref sig .tc := ⟨.hbm, 99, rfl⟩
abbrev main_call3_v0 : Ref sig .tc := ⟨.hbm, 100, rfl⟩
abbrev main_call3_cst : Ref sig .tc := ⟨.hbm, 101, rfl⟩
abbrev main_call3_c : Ref sig .tc := ⟨.hbm, 102, rfl⟩
abbrev main_call3_v1_0 : Ref sig .tc := ⟨.hbm, 103, rfl⟩
abbrev main_v69 : Ref sig .tc := ⟨.hbm, 104, rfl⟩
abbrev main_call4_v0 : Ref sig .tc := ⟨.hbm, 105, rfl⟩
abbrev main_call4_cst : Ref sig .tc := ⟨.hbm, 106, rfl⟩
abbrev main_call4_c : Ref sig .tc := ⟨.hbm, 107, rfl⟩
abbrev main_call4_v1_0 : Ref sig .tc := ⟨.hbm, 108, rfl⟩
abbrev main_v70 : Ref sig .tc := ⟨.hbm, 109, rfl⟩
abbrev main_c : Ref sig .tc := ⟨.hbm, 110, rfl⟩
abbrev main_v71 : Ref sig .tc := ⟨.hbm, 111, rfl⟩
abbrev main_v72 : Ref sig .tc := ⟨.hbm, 112, rfl⟩
abbrev main_c_15 : Ref sig .tc := ⟨.hbm, 113, rfl⟩
abbrev main_v73 : Ref sig .tc := ⟨.hbm, 114, rfl⟩
abbrev main_v74 : Ref sig .tc := ⟨.hbm, 115, rfl⟩
abbrev main_c_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_17 : Ref sig .tc := ⟨.hbm, 120, rfl⟩
abbrev main_v78 : Ref sig .tc := ⟨.hbm, 121, rfl⟩
abbrev main_v79 : Ref sig .tc := ⟨.hbm, 122, rfl⟩
abbrev main_c_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_19 : Ref sig .tc := ⟨.hbm, 130, rfl⟩
abbrev main_v86 : Ref sig .tc := ⟨.hbm, 131, rfl⟩
abbrev main_v87 : Ref sig .tc := ⟨.hbm, 132, rfl⟩
abbrev main_c_20 : Ref sig .tc := ⟨.hbm, 133, rfl⟩
abbrev main_v88 : Ref sig .tc := ⟨.hbm, 134, rfl⟩
abbrev main_v89 : Ref sig .tc := ⟨.hbm, 135, rfl⟩
abbrev main_c_21 : Ref sig .tc := ⟨.hbm, 136, rfl⟩
abbrev main_v90 : Ref sig .tc := ⟨.hbm, 137, rfl⟩
abbrev main_v91 : Ref sig .tc := ⟨.hbm, 138, rfl⟩
abbrev main_c_22 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_23 : Ref sig .tc := ⟨.hbm, 143, rfl⟩
abbrev main_v95 : Ref sig .tc := ⟨.hbm, 144, rfl⟩
abbrev main_v96 : Ref sig .tc := ⟨.hbm, 145, rfl⟩
abbrev main_c_24 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_25 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_26 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_28 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_29 : Ref sig .tc := ⟨.hbm, 174, rfl⟩
abbrev main_call5_v0 : Ref sig .tc := ⟨.hbm, 175, rfl⟩
abbrev main_call5_v1 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_values : Ref sig .tc := ⟨.hbm, 180, rfl⟩
abbrev main_indices : Ref sig .tc := ⟨.hbm, 181, rfl⟩
abbrev main_v123 : Ref sig .tc := ⟨.hbm, 182, rfl⟩
abbrev main_call6_c : Ref sig .tc := ⟨.hbm, 183, rfl⟩
abbrev main_call6_v0 : Ref sig .tc := ⟨.hbm, 184, rfl⟩
abbrev main_call6_v1 : Ref sig .tc := ⟨.hbm, 185, rfl⟩
abbrev main_call6_c_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_c_1 : Ref sig .tc := ⟨.hbm, 191, rfl⟩
abbrev main_call6_c_2 : Ref sig .tc := ⟨.hbm, 192, rfl⟩
abbrev main_call6_v6 : Ref sig .tc := ⟨.hbm, 193, rfl⟩
abbrev main_call6_v7 : Ref sig .tc := ⟨.hbm, 194, rfl⟩
abbrev main_call6_v8 : Ref sig .tc := ⟨.hbm, 195, rfl⟩
abbrev main_call6_v9 : Ref sig .tc := ⟨.hbm, 196, rfl⟩
abbrev main_call6_v10 : Ref sig .tc := ⟨.hbm, 197, rfl⟩
abbrev main_call6_v11 : Ref sig .tc := ⟨.hbm, 198, rfl⟩
abbrev main_call6_c_3 : Ref sig .tc := ⟨.hbm, 199, rfl⟩
abbrev main_call6_v12 : Ref sig .tc := ⟨.hbm, 200, rfl⟩
abbrev main_call6_v13 : Ref sig .tc := ⟨.hbm, 201, rfl⟩
abbrev main_call6_v14 : Ref sig .tc := ⟨.hbm, 202, rfl⟩
abbrev main_call6_cst : Ref sig .tc := ⟨.hbm, 203, rfl⟩
abbrev main_call6_v15 : Ref sig .tc := ⟨.hbm, 204, rfl⟩
abbrev main_v124 : Ref sig .tc := ⟨.hbm, 205, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S2048x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S2048x3 : Shape := ⟨2, ![2048, 3]⟩
abbrev S2048x256 : Shape := ⟨2, ![2048, 256]⟩
abbrev S32768x3 : Shape := ⟨2, ![32768, 3]⟩
abbrev S32768x128 : Shape := ⟨2, ![32768, 128]⟩
abbrev S4x4 : Shape := ⟨2, ![4, 4]⟩
abbrev S256x256 : Shape := ⟨2, ![256, 256]⟩
abbrev S256 : Shape := ⟨1, ![256]⟩
abbrev S1x256 : Shape := ⟨2, ![1, 256]⟩
abbrev S256x2048 : Shape := ⟨2, ![256, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S3x3 : Shape := ⟨2, ![3, 3]⟩
abbrev S3x1 : Shape := ⟨2, ![3, 1]⟩
abbrev S3 : Shape := ⟨1, ![3]⟩
abbrev S1x3 : Shape := ⟨2, ![1, 3]⟩
abbrev S3x2048 : Shape := ⟨2, ![3, 2048]⟩
abbrev S2048x2 : Shape := ⟨2, ![2048, 2]⟩
abbrev S32768 : Shape := ⟨1, ![32768]⟩
abbrev S1x32768 : Shape := ⟨2, ![1, 32768]⟩
abbrev S2048x32768 : Shape := ⟨2, ![2048, 32768]⟩
abbrev S3x32768 : Shape := ⟨2, ![3, 32768]⟩
abbrev S2048x64 : Shape := ⟨2, ![2048, 64]⟩
abbrev S2048x64x1 : Shape := ⟨3, ![2048, 64, 1]⟩
abbrev S1 : Shape := ⟨1, ![1]⟩
abbrev S1x1x1 : Shape := ⟨3, ![1, 1, 1]⟩
abbrev S2048x64x128 : Shape := ⟨3, ![2048, 64, 128]⟩

abbrev nBuf : Space → Nat
  | .hbm => 210
  | .vmem => 0
  | .smem => 0
  | _ => 0

abbrev hbmTy0_0 (i : Nat) : BufTy := match i % 128 with
  | 0 => ⟨S2048x3, .f32⟩
  | 1 => ⟨S2048x3, .f32⟩
  | 2 => ⟨S2048x256, .f32⟩
  | 3 => ⟨S2048x256, .f32⟩
  | 4 => ⟨S32768x3, .f32⟩
  | 5 => ⟨S32768x128, .f32⟩
  | 6 => ⟨S4x4, .f32⟩
  | 7 => ⟨S256x256, .f32⟩
  | 8 => ⟨S256, .f32⟩
  | 9 => ⟨S2048x256, .f32⟩
  | 10 => ⟨S1x256, .f32⟩
  | 11 => ⟨S2048x256, .f32⟩
  | 12 => ⟨S2048x256, .f32⟩
  | 13 => ⟨S2048x256, .f32⟩
  | 14 => ⟨S1x256, .f32⟩
  | 15 => ⟨S2048x256, .f32⟩
  | 16 => ⟨S2048x256, .f32⟩
  | 17 => ⟨S256x2048, .f32⟩
  | 18 => ⟨S2048x2048, .f32⟩
  | 19 => ⟨S_, .f32⟩
  | 20 => ⟨S_, .f32⟩
  | 21 => ⟨S2048x2048, .f32⟩
  | 22 => ⟨S2048x2048, .f32⟩
  | 23 => ⟨S_, .f32⟩
  | 24 => ⟨S2048, .f32⟩
  | 25 => ⟨S_, .f32⟩
  | 26 => ⟨S2048, .f32⟩
  | 27 => ⟨S2048, .f32⟩
  | 28 => ⟨S2048x1, .f32⟩
  | 29 => ⟨S2048x2048, .f32⟩
  | 30 => ⟨S2048x2048, .f32⟩
  | 31 => ⟨S2048x2048, .f32⟩
  | 32 => ⟨S_, .f32⟩
  | 33 => ⟨S2048, .f32⟩
  | 34 => ⟨S2048x1, .f32⟩
  | 35 => ⟨S2048x2048, .f32⟩
  | 36 => ⟨S2048x2048, .f32⟩
  | 37 => ⟨S_, .f32⟩
  | 38 => ⟨S2048, .f32⟩
  | 39 => ⟨S_, .f32⟩
  | 40 => ⟨S2048, .f32⟩
  | 41 => ⟨S2048, .f32⟩
  | 42 => ⟨S1x2048, .f32⟩
  | 43 => ⟨S2048x2048, .f32⟩
  | 44 => ⟨S2048x2048, .f32⟩
  | 45 => ⟨S2048x2048, .f32⟩
  | 46 => ⟨S_, .f32⟩
  | 47 => ⟨S2048, .f32⟩
  | 48 => ⟨S1x2048, .f32⟩
  | 49 => ⟨S2048x2048, .f32⟩
  | 50 => ⟨S2048x2048, .f32⟩
  | 51 => ⟨S2048x2048, .f32⟩
  | 52 => ⟨S3x3, .f32⟩
  | 53 => ⟨S3x1, .f32⟩
  | 54 => ⟨S3, .f32⟩
  | 55 => ⟨S3x3, .f32⟩
  | 56 => ⟨S2048x3, .f32⟩
  | 57 => ⟨S1x3, .f32⟩
  | 58 => ⟨S2048x3, .f32⟩
  | 59 => ⟨S2048x3, .f32⟩
  | 60 => ⟨S2048x3, .f32⟩
  | 61 => ⟨S_, .f32⟩
  | 62 => ⟨S2048, .f32⟩
  | 63 => ⟨S2048x1, .f32⟩
  | 64 => ⟨S2048x3, .f32⟩
  | 65 => ⟨S_, .f32⟩
  | 66 => ⟨S2048, .f32⟩
  | 67 => ⟨S1x2048, .f32⟩
  | 68 => ⟨S2048x2048, .f32⟩
  | 69 => ⟨S2048x2048, .f32⟩
  | 70 => ⟨S2048x2048, .f32⟩
  | 71 => ⟨S3x2048, .f32⟩
  | 72 => ⟨S2048x2048, .f32⟩
  | 73 => ⟨S_, .f32⟩
  | 74 => ⟨S2048x2048, .f32⟩
  | 75 => ⟨S2048x2048, .f32⟩
  | 76 => ⟨S2048x2048, .f32⟩
  | 77 => ⟨S_, .f32⟩
  | 78 => ⟨S_, .f32⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .f32⟩
  | 85 => ⟨S_, .f32⟩
  | 86 => ⟨S_, .f32⟩
  | 87 => ⟨S2048x2048, .f32⟩
  | 88 => ⟨S2048x2048, .f32⟩
  | 89 => ⟨S2048x2048, .f32⟩
  | 90 => ⟨S2048x2048, .f32⟩
  | 91 => ⟨S_, .f32⟩
  | 92 => ⟨S2048x2048, .f32⟩
  | 93 => ⟨S2048x2048, .f32⟩
  | 94 => ⟨S_, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S2048x2048, .f32⟩
  | 101 => ⟨S_, .f32⟩
  | 102 => ⟨S2048x2048, .f32⟩
  | 103 => ⟨S2048x2048, .f32⟩
  | 104 => ⟨S2048x2048, .i32⟩
  | 105 => ⟨S_, .f32⟩
  | 106 => ⟨S_, .i32⟩
  | 107 => ⟨S2048, .f32⟩
  | 108 => ⟨S2048, .i32⟩
  | 109 => ⟨S2048x2048, .i32⟩
  | 110 => ⟨S_, .f32⟩
  | 111 => ⟨S_, .i32⟩
  | 112 => ⟨S2048, .f32⟩
  | 113 => ⟨S2048, .i32⟩
  | 114 => ⟨S_, .i1⟩
  | 115 => ⟨S2048x2048, .i1⟩
  | 116 => ⟨S2048, .i32⟩
  | 117 => ⟨S_, .i32⟩
  | 118 => ⟨S2048, .i32⟩
  | 119 => ⟨S2048, .i1⟩
  | 120 => ⟨S_, .i32⟩
  | 121 => ⟨S2048, .i32⟩
  | 122 => ⟨S2048, .i32⟩
  | 123 => ⟨S2048, .i32⟩
  | 124 => ⟨S_, .i32⟩
  | 125 => ⟨S2048, .i32⟩
  | 126 => ⟨S2048, .i1⟩
  | 127 => ⟨S_, .i32⟩
  | _ => ⟨S2048x3, .f32⟩

abbrev hbmTy0_1 (i : Nat) : BufTy := match i % 128 with
  | 0 => ⟨S2048, .i32⟩
  | 1 => ⟨S2048, .i32⟩
  | 2 => ⟨S2048, .i32⟩
  | 3 => ⟨S2048x1, .i32⟩
  | 4 => ⟨S2048x1, .i32⟩
  | 5 => ⟨S2048x2, .i32⟩
  | 6 => ⟨S_, .i1⟩
  | 7 => ⟨S2048, .i1⟩
  | 8 => ⟨S2048x2048, .i1⟩
  | 9 => ⟨S_, .i1⟩
  | 10 => ⟨S2048x2048, .i1⟩
  | 11 => ⟨S2048, .i32⟩
  | 12 => ⟨S_, .i32⟩
  | 13 => ⟨S2048, .i32⟩
  | 14 => ⟨S2048, .i1⟩
  | 15 => ⟨S_, .i32⟩
  | 16 => ⟨S2048, .i32⟩
  | 17 => ⟨S2048, .i32⟩
  | 18 => ⟨S2048, .i32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S2048x1, .i32⟩
  | 28 => ⟨S2048x2, .i32⟩
  | 29 => ⟨S_, .i1⟩
  | 30 => ⟨S2048, .i1⟩
  | 31 => ⟨S2048x2048, .i1⟩
  | 32 => ⟨S2048x2048, .i1⟩
  | 33 => ⟨S2048x3, .f32⟩
  | 34 => ⟨S_, .f32⟩
  | 35 => ⟨S2048, .f32⟩
  | 36 => ⟨S2048x1, .f32⟩
  | 37 => ⟨S32768x3, .f32⟩
  | 38 => ⟨S_, .f32⟩
  | 39 => ⟨S32768, .f32⟩
  | 40 => ⟨S1x32768, .f32⟩
  | 41 => ⟨S2048x32768, .f32⟩
  | 42 => ⟨S2048x32768, .f32⟩
  | 43 => ⟨S2048x32768, .f32⟩
  | 44 => ⟨S3x32768, .f32⟩
  | 45 => ⟨S2048x32768, .f32⟩
  | 46 => ⟨S_, .f32⟩
  | 47 => ⟨S2048x32768, .f32⟩
  | 48 => ⟨S2048x32768, .f32⟩
  | 49 => ⟨S2048x32768, .f32⟩
  | 50 => ⟨S_, .f32⟩
  | 51 => ⟨S_, .f32⟩
  | 52 => ⟨S2048x32768, .f32⟩
  | 53 => ⟨S2048x32768, .f32⟩
  | 54 => ⟨S2048x32768, .f32⟩
  | 55 => ⟨S2048x32768, .f32⟩
  | 56 => ⟨S2048x64, .f32⟩
  | 57 => ⟨S2048x64, .i32⟩
  | 58 => ⟨S2048x64, .f32⟩
  | 59 => ⟨S_, .i32⟩
  | 60 => ⟨S2048x64, .i32⟩
  | 61 => ⟨S2048x64, .i1⟩
  | 62 => ⟨S_, .i32⟩
  | 63 => ⟨S2048x64, .i32⟩
  | 64 => ⟨S2048x64, .i32⟩
  | 65 => ⟨S2048x64, .i32⟩
  | 66 => ⟨S2048x64x1, .i32⟩
  | 67 => ⟨S1, .i32⟩
  | 68 => ⟨S_, .i32⟩
  | 69 => ⟨S2048x64x1, .i32⟩
  | 70 => ⟨S2048x64x1, .i1⟩
  | 71 => ⟨S1x1x1, .i32⟩
  | 72 => ⟨S2048x64x1, .i32⟩
  | 73 => ⟨S2048x64x1, .i1⟩
  | 74 => ⟨S2048x64x1, .i1⟩
  | 75 => ⟨S_, .i1⟩
  | 76 => ⟨S2048x64, .i1⟩
  | 77 => ⟨S2048x64x128, .f32⟩
  | 78 => ⟨S2048x64x128, .i1⟩
  | 79 => ⟨S_, .f32⟩
  | 80 => ⟨S2048x64x128, .f32⟩
  | 81 => ⟨S2048x64x128, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_call0_v0 : Ref sig .tc := ⟨.hbm, 78, rfl⟩
abbrev main_call0_v1 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_call3_v0 : Ref sig .tc := ⟨.hbm, 104, rfl⟩
abbrev main_call3_cst : Ref sig .tc := ⟨.hbm, 105, rfl⟩
abbrev main_call3_c : Ref sig .tc := ⟨.hbm, 106, rfl⟩
abbrev main_call3_v1_0 : Ref sig .tc := ⟨.hbm, 107, rfl⟩
abbrev main_v73 : Ref sig .tc := ⟨.hbm, 108, rfl⟩
abbrev main_call4_v0 : Ref sig .tc := ⟨.hbm, 109, rfl⟩
abbrev main_call4_cst : Ref sig .tc := ⟨.hbm, 110, rfl⟩
abbrev main_call4_c : Ref sig .tc := ⟨.hbm, 111, rfl⟩
abbrev main_call4_v1_0 : Ref sig .tc := ⟨.hbm, 112, rfl⟩
abbrev main_v74 : Ref sig .tc := ⟨.hbm, 113, rfl⟩
abbrev main_c : Ref sig .tc := ⟨.hbm, 114, rfl⟩
abbrev main_v75 : Ref sig .tc := ⟨.hbm, 115, rfl⟩
abbrev main_v76 : Ref sig .tc := ⟨.hbm, 116, rfl⟩
abbrev main_c_15 : Ref sig .tc := ⟨.hbm, 117, rfl⟩
abbrev main_v77 : Ref sig .tc := ⟨.hbm, 118, rfl⟩
abbrev main_v78 : Ref sig .tc := ⟨.hbm, 119, rfl⟩
abbrev main_c_16 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_17 : Ref sig .tc := ⟨.hbm, 124, rfl⟩
abbrev main_v82 : Ref sig .tc := ⟨.hbm, 125, rfl⟩
abbrev main_v83 : Ref sig .tc := ⟨.hbm, 126, rfl⟩
abbrev main_c_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_19 : Ref sig .tc := ⟨.hbm, 134, rfl⟩
abbrev main_v90 : Ref sig .tc := ⟨.hbm, 135, rfl⟩
abbrev main_v91 : Ref sig .tc := ⟨.hbm, 136, rfl⟩
abbrev main_c_20 : Ref sig .tc := ⟨.hbm, 137, rfl⟩
abbrev main_v92 : Ref sig .tc := ⟨.hbm, 138, rfl⟩
abbrev main_v93 : Ref sig .tc := ⟨.hbm, 139, rfl⟩
abbrev main_c_21 : Ref sig .tc := ⟨.hbm, 140, rfl⟩
abbrev main_v94 : Ref sig .tc := ⟨.hbm, 141, rfl⟩
abbrev main_v95 : Ref sig .tc := ⟨.hbm, 142, rfl⟩
abbrev main_c_22 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_23 : Ref sig .tc := ⟨.hbm, 147, rfl⟩
abbrev main_v99 : Ref sig .tc := ⟨.hbm, 148, rfl⟩
abbrev main_v100 : Ref sig .tc := ⟨.hbm, 149, rfl⟩
abbrev main_c_24 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_26 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_27 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_28 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_29 : Ref sig .tc := ⟨.hbm, 178, rfl⟩
abbrev main_call5_v0 : Ref sig .tc := ⟨.hbm, 179, rfl⟩
abbrev main_call5_v1 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_values : Ref sig .tc := ⟨.hbm, 184, rfl⟩
abbrev main_indices : Ref sig .tc := ⟨.hbm, 185, rfl⟩
abbrev main_v127 : Ref sig .tc := ⟨.hbm, 186, rfl⟩
abbrev main_call6_c : Ref sig .tc := ⟨.hbm, 187, rfl⟩
abbrev main_call6_v0 : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_c_1 : Ref sig .tc := ⟨.hbm, 195, rfl⟩
abbrev main_call6_c_2 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_3 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_call6_cst : Ref sig .tc := ⟨.hbm, 207, rfl⟩
abbrev main_call6_v15 : Ref sig .tc := ⟨.hbm, 208, rfl⟩
abbrev main_v128 : Ref sig .tc := ⟨.hbm, 209, rfl⟩

abbrev nD : Nat := 1
abbrev τ : Topo := Topo.v7x

variable {F : FTy → Type} [FloatOps F]
-- ==== Proof.KernelRun.lean ====
module

public import proofs.«01_k».proof.Proof.Gen.KernelIdeal.Frame

/-! # The kernel program's run

The frame certificate's launch, read at every buffer instead of at the arguments only: each unscoped buffer of the
TensorCore ends at the contents `Gen.W16` that the fold over the program's segments gives it. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run: every unscoped buffer of every core ends at `Gen.W16`. -/
theorem run : θ_run defs (onTc (τ := τ) (main (F := F))) ⟨m, fun _ => 0, ρ⟩ (fun r =>
      ∀ (c : Dev nD) (b : Ref sig .tc), ¬ (Proc.devRef .tc b : DevRef τ sig).isScoped →
        r.2.mem ((c.tc : Thread nD τ).loc b) = W16 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ c b hb => h c _ (mem_uc b hb))

end Cert.KernelIdeal.Run

end
-- ==== Proof.ReferenceRun.lean ====
module

public import proofs.«01_k».proof.Proof.Gen.ReferenceIdeal
public import Idealize.ShloMosaic.Lib.Claim
public import Idealize.ShloMosaic.Lib.Pipeline.Regions

/-! # The reference's run

The reference is one straight line of host operations. It is cut here into thirteen stretches: `ops0` computes the two
projected feature arrays, and `ops1` … `ops12` are what follows, cut where the kernel's program is cut (at the calls of its
inlined functions), so that the two programs can be compared one stretch at a time. -/

@[expose] public section

set_option maxRecDepth 16384

noncomputable section

namespace Cert.ReferenceIdeal.Line

open Idealize.ShloMosaic Idealize.ShloMosaic.TcCoe Idealize.SL.Sem Cert.ReferenceIdeal
open Cert.ReferenceIdeal.Facts₀ Cert.ReferenceIdeal.Facts

variable {F : FTy → Type} [FloatOps F]

/-- Stretch 0: the two projected feature arrays. -/
abbrev ops0 : List (HloOp τ sig (Elt F)) :=
  [ StableHlo.binary main_arg2 main_arg7 main_v0 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_arg8 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S2048x256 ![0, 1] bcast_S1x256_S2048x256_0_1 : (⟨S1x256, .f32⟩ : BufTy).Contents (Elt F) → (⟨S2048x256, .f32⟩ : BufTy).Contents (Elt F)),
    StableHlo.binary main_v0 main_v2 main_v3 (addf : (⟨S2048x256, .f32⟩ : BufTy).Contents (Elt F) → (⟨S2048x256, .f32⟩ : BufTy).Contents (Elt F) → (⟨S2048x256, .f32⟩ : BufTy).Contents (Elt F)),
    StableHlo.binary main_arg3 main_arg7 main_v4 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_arg8 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S2048x256 ![0, 1] bcast_S1x256_S2048x256_0_1 : (⟨S1x256, .f32⟩ : BufTy).Contents (Elt F) → (⟨S2048x256, .f32⟩ : BufTy).Contents (Elt F)),
    StableHlo.binary main_v4 main_v6 main_v7 (addf : (⟨S2048x256, .f32⟩ : BufTy).Contents (Elt F) → (⟨S2048x256, .f32⟩ : BufTy).Contents (Elt F) → (⟨S2048x256, .f32⟩ : BufTy).Contents (Elt F)) ]

set_option maxHeartbeats 40000000 in
/-- Stretch 1: the matching scores and the distances, before the clipping, between the coarse points. -/
abbrev ops1 : List (HloOp τ sig (Elt F)) :=
  ( StableHlo.unary main_v7 main_v8 ((transpose S256x2048 [1, 0] · transposes_S2048x256_S256x2048_1_0) : (⟨S2048x256, .f32⟩ : BufTy).Contents (Elt F) → (⟨S256x2048, .f32⟩ : BufTy).Contents (Elt F))
  :: StableHlo.binary main_v3 main_v8 main_v9 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F))
  :: StableHlo.nullary main_cst (constant S_ .f32 0x43800000#32)
  :: StableHlo.unary main_cst main_v10 (Host.sqrt : (⟨S_, .f32⟩ : BufTy).Contents (Elt F) → (⟨S_, .f32⟩ : BufTy).Contents (Elt F))
  :: StableHlo.unary main_v10 main_v11 (broadcastInDim S2048x2048 ![] bcast_S_S2048x2048 : (⟨S_, .f32⟩ : BufTy).Contents (Elt F) → (⟨S2048x2048, .f32⟩ : BufTy).Contents (Elt F))
  :: StableHlo.binary main_v9 main_v11 main_v12 (Host.divf : (⟨S2048x2048, .f32⟩ : BufTy).Contents (Elt F) → (⟨S2048x2048, .f32⟩ : BufTy).Contents (Elt F) → (⟨S2048x2048, .f32⟩ : BufTy).Contents (Elt F))
  :: StableHlo.nullary main_cst_0 (constant S_ .f32 0xFF800000#32)
  :: StableHlo.binary main_v12 main_cst_0 main_v13 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F))
  :: StableHlo.nullary main_cst_1 (constant S_ .f32 0xFF800000#32)
  :: StableHlo.unary main_cst_1 main_v14 (broadcastInDim S2048 ![] bcast_S_S2048 : (⟨S_, .f32⟩ : BufTy).Contents (Elt F) → (⟨S2048, .f32⟩ : BufTy).Contents (Elt F))
  :: StableHlo.binary main_v14 main_v13 main_v15 (maximumf : (⟨S2048, .f32⟩ : BufTy).Contents (Elt F) → (⟨S2048, .f32⟩ : BufTy).Contents (Elt F) → (⟨S2048, .f32⟩ : BufTy).Contents (Elt F))
  :: StableHlo.unary main_v15 main_v16 (broadcastInDim S2048x1 ![0] bcast_S2048_S2048x1_0 : (⟨S2048, .f32⟩ : BufTy).Contents (Elt F) → (⟨S2048x1, .f32⟩ : BufTy).Contents (Elt F))
  :: StableHlo.unary main_v16 main_v17 (broadcastInDim S2048x2048 ![0, 1] bcast_S2048x1_S2048x2048_0_1 : (⟨S2048x1, .f32⟩ : BufTy).Contents (Elt F) → (⟨S2048x2048, .f32⟩ : BufTy).Contents (Elt F))
  :: StableHlo.binary main_v12 main_v17 main_v18 (subf : (⟨S2048x2048, .f32⟩ : BufTy).Contents (Elt F) → (⟨S2048x2048, .f32⟩ : BufTy).Contents (Elt F) → (⟨S2048x2048, .f32⟩ : BufTy).Contents (Elt F))
  :: StableHlo.unary main_v18 main_v19 (Host.exp : (⟨S2048x2048, .f32⟩ : BufTy).Contents (Elt F) → (⟨S2048x2048, .f32⟩ : BufTy).Contents (Elt F))
  :: StableHlo.nullary main_cst_2 (constant S_ .f32 0x00000000#32)
  :: StableHlo.binary main_v19 main_cst_2 main_v20 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F))
  :: StableHlo.unary main_v20 main_v21 (broadcastInDim S2048x1 ![0] bcast_S2048_S2048x1_0 : (⟨S2048, .f32⟩ : BufTy).Contents (Elt F) → (⟨S2048x1, .f32⟩ : BufTy).Contents (Elt F))
  :: StableHlo.unary main_v21 main_v22 (broadcastInDim S2048x2048 ![0, 1] bcast_S2048x1_S2048x2048_0_1 : (⟨S2048x1, .f32⟩ : BufTy).Contents (Elt F) → (⟨S2048x2048, .f32⟩ : BufTy).Contents (Elt F))
  :: StableHlo.binary main_v19 main_v22 main_v23 (Host.divf : (⟨S2048x2048, .f32⟩ : BufTy).Contents (Elt F) → (⟨S2048x2048, .f32⟩ : BufTy).Contents (Elt F) → (⟨S2048x2048, .f32⟩ : BufTy).Contents (Elt F))
  :: StableHlo.nullary main_cst_3 (constant S_ .f32 0xFF800000#32)
  :: StableHlo.binary main_v12 main_cst_3 main_v24 ((fun x v => Host.reduce FloatOps.maximumf x v reducesTo_S2048x2048_S2048_d0 h_S_) : (⟨S2048x2048, .f32⟩ : BufTy).Contents (Elt F) → (⟨S_, .f32⟩ : BufTy).Contents (Elt F) → (⟨S2048, .f32⟩ : BufTy).Contents (Elt F))
  :: StableHlo.nullary main_cst_4 (constant S_ .f32 0xFF800000#32)
  :: StableHlo.unary main_cst_4 main_v25 (broadcastInDim S2048 ![] bcast_S_S2048 : (⟨S_, .f32⟩ : BufTy).Contents (Elt F) → (⟨S2048, .f32⟩ : BufTy).Contents (Elt F))
  :: StableHlo.binary main_v25 main_v24 main_v26 (maximumf : (⟨S2048, .f32⟩ : BufTy).Contents (Elt F) → (⟨S2048, .f32⟩ : BufTy).Contents (Elt F) → (⟨S2048, .f32⟩ : BufTy).Contents (Elt F))
  :: StableHlo.unary main_v26 main_v27 (broadcastInDim S1x2048 ![1] bcast_S2048_S1x2048_1 : (⟨S2048, .f32⟩ : BufTy).Contents (Elt F) → (⟨S1x2048, .f32⟩ : BufTy).Contents (Elt F))
  :: StableHlo.unary main_v27 main_v28 (broadcastInDim S2048x2048 ![0, 1] bcast_S1x2048_S2048x2048_0_1 : (⟨S1x2048, .f32⟩ : BufTy).Contents (Elt F) → (⟨S2048x2048, .f32⟩ : BufTy).Contents (Elt F))
  :: StableHlo.binary main_v12 main_v28 main_v29 (subf : (⟨S2048x2048, .f32⟩ : BufTy).Contents (Elt F) → (⟨S2048x2048, .f32⟩ : BufTy).Contents (Elt F) → (⟨S2048x2048, .f32⟩ : BufTy).Contents (Elt F))
  :: StableHlo.unary main_v29 main_v30 (Host.exp : (⟨S2048x2048, .f32⟩ : BufTy).Contents (Elt F) → (⟨S2048x2048, .f32⟩ : BufTy).Contents (Elt F))
  :: StableHlo.nullary main_cst_5 (constant S_ .f32 0x00000000#32)
  :: StableHlo.binary main_v30 main_cst_5 main_v31 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F))
  :: StableHlo.unary main_v31 main_v32 (broadcastInDim S1x2048 ![1] bcast_S2048_S1x2048_1 : (⟨S2048, .f32⟩ : BufTy).Contents (Elt F) → (⟨S1x2048, .f32⟩ : BufTy).Contents (Elt F))
  :: StableHlo.unary main_v32 main_v33 (broadcastInDim S2048x2048 ![0, 1] bcast_S1x2048_S2048x2048_0_1 : (⟨S1x2048, .f32⟩ : BufTy).Contents (Elt F) → (⟨S2048x2048, .f32⟩ : BufTy).Contents (Elt F))
  :: StableHlo.binary main_v30 main_v33 main_v34 (Host.divf : (⟨S2048x2048, .f32⟩ : BufTy).Contents (Elt F) → (⟨S2048x2048, .f32⟩ : BufTy).Contents (Elt F) → (⟨S2048x2048, .f32⟩ : BufTy).Contents (Elt F))
  :: StableHlo.binary main_v23 main_v34 main_v35 (mulf : (⟨S2048x2048, .f32⟩ : BufTy).Contents (Elt F) → (⟨S2048x2048, .f32⟩ : BufTy).Contents (Elt F) → (⟨S2048x2048, .f32⟩ : BufTy).Contents (Elt F))
  :: StableHlo.unary main_arg6 main_v36 ((extractStridedSlice S3x3 ![0, 0] · slices_S4x4_S3x3_0_0) : (⟨S4x4, .f32⟩ : BufTy).Contents (Elt F) → (⟨S3x3, .f32⟩ : BufTy).Contents (Elt F))
  :: StableHlo.unary main_arg6 main_v37 ((extractStridedSlice S3x1 ![0, 3] · slices_S4x4_S3x1_0_3) : (⟨S4x4, .f32⟩ : BufTy).Contents (Elt F) → (⟨S3x1, .f32⟩ : BufTy).Contents (Elt F))
  :: StableHlo.reshape main_v37 main_v38 (rfl : (.f32 : EltTy) = .f32) shapeCasts_S3x1_S3
  :: StableHlo.unary main_v36 main_v39 ((transpose S3x3 [1, 0] · transposes_S3x3_S3x3_1_0) : (⟨S3x3, .f32⟩ : BufTy).Contents (Elt F) → (⟨S3x3, .f32⟩ : BufTy).Contents (Elt F))
  :: StableHlo.binary main_arg1 main_v39 main_v40 ((fun l r => Host.dotGeneral dot_S2048x3_S3x3_S2048x3_1_0_0_1_n_n none l r) : (⟨S2048x3, .f32⟩ : BufTy).Contents (Elt F) → (⟨S3x3, .f32⟩ : BufTy).Contents (Elt F) → (⟨S2048x3, .f32⟩ : BufTy).Contents (Elt F))
  :: StableHlo.unary main_v38 main_v41 (broadcastInDim S1x3 ![1] bcast_S3_S1x3_1 : (⟨S3, .f32⟩ : BufTy).Contents (Elt F) → (⟨S1x3, .f32⟩ : BufTy).Contents (Elt F))
  :: StableHlo.unary main_v41 main_v42 (broadcastInDim S2048x3 ![0, 1] bcast_S1x3_S2048x3_0_1 : (⟨S1x3, .f32⟩ : BufTy).Contents (Elt F) → (⟨S2048x3, .f32⟩ : BufTy).Contents (Elt F))
  :: StableHlo.binary main_v40 main_v42 main_v43 (addf : (⟨S2048x3, .f32⟩ : BufTy).Contents (Elt F) → (⟨S2048x3, .f32⟩ : BufTy).Contents (Elt F) → (⟨S2048x3, .f32⟩ : BufTy).Contents (Elt F))
  :: StableHlo.binary main_arg0 main_arg0 main_v44 (mulf : (⟨S2048x3, .f32⟩ : BufTy).Contents (Elt F) → (⟨S2048x3, .f32⟩ : BufTy).Contents (Elt F) → (⟨S2048x3, .f32⟩ : BufTy).Contents (Elt F))
  :: StableHlo.nullary main_cst_6 (constant S_ .f32 0x00000000#32)
  :: StableHlo.binary main_v44 main_cst_6 main_v45 ((fun x v => Host.reduceAdd x v reducesTo_S2048x3_S2048_d1 h_S_) : (⟨S2048x3, .f32⟩ : BufTy).Contents (Elt F) → (⟨S_, .f32⟩ : BufTy).Contents (Elt F) → (⟨S2048, .f32⟩ : BufTy).Contents (Elt F))
  :: StableHlo.unary main_v45 main_v46 (broadcastInDim S2048x1 ![0] bcast_S2048_S2048x1_0 : (⟨S2048, .f32⟩ : BufTy).Contents (Elt F) → (⟨S2048x1, .f32⟩ : BufTy).Contents (Elt F))
  :: StableHlo.binary main_v43 main_v43 main_v47 (mulf : (⟨S2048x3, .f32⟩ : BufTy).Contents (Elt F) → (⟨S2048x3, .f32⟩ : BufTy).Contents (Elt F) → (⟨S2048x3, .f32⟩ : BufTy).Contents (Elt F))
  :: StableHlo.nullary main_cst_7 (constant S_ .f32 0x00000000#32)
  :: StableHlo.binary main_v47 main_cst_7 main_v48 ((fun x v => Host.reduceAdd x v reducesTo_S2048x3_S2048_d1 h_S_) : (⟨S2048x3, .f32⟩ : BufTy).Contents (Elt F) → (⟨S_, .f32⟩ : BufTy).Contents (Elt F) → (⟨S2048, .f32⟩ : BufTy).Contents (Elt F))
  :: StableHlo.unary main_v48 main_v49 (broadcastInDim S1x2048 ![1] bcast_S2048_S1x2048_1 : (⟨S2048, .f32⟩ : BufTy).Contents (Elt F) → (⟨S1x2048, .f32⟩ : BufTy).Contents (Elt F))
  :: StableHlo.unary main_v46 main_v50 (broadcastInDim S2048x2048 ![0, 1] bcast_S2048x1_S2048x2048_0_1 : (⟨S2048x1, .f32⟩ : BufTy).Contents (Elt F) → (⟨S2048x2048, .f32⟩ : BufTy).Contents (Elt F))
  :: StableHlo.unary main_v49 main_v51 (broadcastInDim S2048x2048 ![0, 1] bcast_S1x2048_S2048x2048_0_1 : (⟨S1x2048, .f32⟩ : BufTy).Contents (Elt F) → (⟨S2048x2048, .f32⟩ : BufTy).Contents (Elt F))
  :: StableHlo.binary main_v50 main_v51 main_v52 (addf : (⟨S2048x2048, .f32⟩ : BufTy).Contents (Elt F) → (⟨S2048x2048, .f32⟩ : BufTy).Contents (Elt F) → (⟨S2048x2048, .f32⟩ : BufTy).Contents (Elt F))
  :: StableHlo.unary main_v43 main_v53 ((transpose S3x2048 [1, 0] · transposes_S2048x3_S3x2048_1_0) : (⟨S2048x3, .f32⟩ : BufTy).Contents (Elt F) → (⟨S3x2048, .f32⟩ : BufTy).Contents (Elt F))
  :: StableHlo.binary main_arg0 main_v53 main_v54 ((fun l r => Host.dotGeneral dot_S2048x3_S3x2048_S2048x2048_1_0_0_1_n_n none l r) : (⟨S2048x3, .f32⟩ : BufTy).Contents (Elt F) → (⟨S3x2048, .f32⟩ : BufTy).Contents (Elt F) → (⟨S2048x2048, .f32⟩ : BufTy).Contents (Elt F))
  :: StableHlo.nullary main_cst_8 (constant S_ .f32 0x40000000#32)
  :: StableHlo.unary main_cst_8 main_v55 (broadcastInDim S2048x2048 ![] bcast_S_S2048x2048 : (⟨S_, .f32⟩ : BufTy).Contents (Elt F) → (⟨S2048x2048, .f32⟩ : BufTy).Contents (Elt F))
  :: StableHlo.binary main_v55 main_v54 main_v56 (mulf : (⟨S2048x2048, .f32⟩ : BufTy).Contents (Elt F) → (⟨S2048x2048, .f32⟩ : BufTy).Contents (Elt F) → (⟨S2048x2048, .f32⟩ : BufTy).Contents (Elt F))
  :: StableHlo.binary main_v52 main_v56 main_v57 (subf : (⟨S2048x2048, .f32⟩ : BufTy).Contents (Elt F) → (⟨S2048x2048, .f32⟩ : BufTy).Contents (Elt F) → (⟨S2048x2048, .f32⟩ : BufTy).Contents (Elt F))
  :: StableHlo.nullary main_cst_9 (constant S_ .f32 0x00000000#32)
  :: [] )

/-- Stretch 2: the clipping of those distances below by zero. -/
abbrev ops2 : List (HloOp τ sig (Elt F)) :=
  [ StableHlo.TRef.unary (.of main_cst_9 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S2048x2048, .f32⟩) (broadcastInDim S2048x2048 ![] bcast_S_S2048x2048),
    StableHlo.TRef.binary (.of main_call0_v1 : StableHlo.TRef sig ⟨S2048x2048, .f32⟩) (.of main_v57 : StableHlo.TRef sig ⟨S2048x2048, .f32⟩) (.of main_v58 : StableHlo.TRef sig ⟨S2048x2048, .f32⟩) maximumf ]

/-- Stretch 3: their square root over the voxel size. -/
abbrev ops3 : List (HloOp τ sig (Elt F)) :=
  [ StableHlo.unary main_v58 main_v59 (Host.sqrt : (⟨S2048x2048, .f32⟩ : BufTy).Contents (Elt F) → (⟨S2048x2048, .f32⟩ : BufTy).Contents (Elt F)),
    StableHlo.nullary main_cst_10 (constant S_ .f32 0x3F800000#32),
    StableHlo.unary main_cst_10 main_v60 (broadcastInDim S2048x2048 ![] bcast_S_S2048x2048 : (⟨S_, .f32⟩ : BufTy).Contents (Elt F) → (⟨S2048x2048, .f32⟩ : BufTy).Contents (Elt F)),
    StableHlo.binary main_v59 main_v60 main_v61 (Host.divf : (⟨S2048x2048, .f32⟩ : BufTy).Contents (Elt F) → (⟨S2048x2048, .f32⟩ : BufTy).Contents (Elt F) → (⟨S2048x2048, .f32⟩ : BufTy).Contents (Elt F)),
    StableHlo.nullary main_cst_11 (constant S_ .f32 0x40000000#32) ]

/-- Stretch 4: the clipping above or below of that ratio. -/
abbrev ops4 : List (HloOp τ sig (Elt F)) :=
  [ StableHlo.TRef.unary (.of main_cst_11 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2048x2048, .f32⟩) (broadcastInDim S2048x2048 ![] bcast_S_S2048x2048),
    StableHlo.TRef.binary (.of main_call1_v1 : StableHlo.TRef sig ⟨S2048x2048, .f32⟩) (.of main_v61 : StableHlo.TRef sig ⟨S2048x2048, .f32⟩) (.of main_v62 : StableHlo.TRef sig ⟨S2048x2048, .f32⟩) minimumf ]

/-- Stretch 5: the circle-overlap polynomial. -/
abbrev ops5 : List (HloOp τ sig (Elt F)) :=
  [ StableHlo.binary main_v62 main_v62 main_v63 (mulf : (⟨S2048x2048, .f32⟩ : BufTy).Contents (Elt F) → (⟨S2048x2048, .f32⟩ : BufTy).Contents (Elt F) → (⟨S2048x2048, .f32⟩ : BufTy).Contents (Elt F)),
    StableHlo.binary main_v63 main_v62 main_v64 (mulf : (⟨S2048x2048, .f32⟩ : BufTy).Contents (Elt F) → (⟨S2048x2048, .f32⟩ : BufTy).Contents (Elt F) → (⟨S2048x2048, .f32⟩ : BufTy).Contents (Elt F)),
    StableHlo.nullary main_cst_12 (constant S_ .f32 0x41800000#32),
    StableHlo.unary main_cst_12 main_v65 (broadcastInDim S2048x2048 ![] bcast_S_S2048x2048 : (⟨S_, .f32⟩ : BufTy).Contents (Elt F) → (⟨S2048x2048, .f32⟩ : BufTy).Contents (Elt F)),
    StableHlo.binary main_v64 main_v65 main_v66 (Host.divf : (⟨S2048x2048, .f32⟩ : BufTy).Contents (Elt F) → (⟨S2048x2048, .f32⟩ : BufTy).Contents (Elt F) → (⟨S2048x2048, .f32⟩ : BufTy).Contents (Elt F)),
    StableHlo.nullary main_cst_13 (constant S_ .f32 0x3F800000#32),
    StableHlo.unary main_cst_13 main_v67 (broadcastInDim S2048x2048 ![] bcast_S_S2048x2048 : (⟨S_, .f32⟩ : BufTy).Contents (Elt F) → (⟨S2048x2048, .f32⟩ : BufTy).Contents (Elt F)),
    StableHlo.binary main_v67 main_v66 main_v68 (addf : (⟨S2048x2048, .f32⟩ : BufTy).Contents (Elt F) → (⟨S2048x2048, .f32⟩ : BufTy).Contents (Elt F) → (⟨S2048x2048, .f32⟩ : BufTy).Contents (Elt F)),
    StableHlo.nullary main_cst_14 (constant S_ .f32 0x3F400000#32),
    StableHlo.unary main_cst_14 main_v69 (broadcastInDim S2048x2048 ![] bcast_S_S2048x2048 : (⟨S_, .f32⟩ : BufTy).Contents (Elt F) → (⟨S2048x2048, .f32⟩ : BufTy).Contents (Elt F)),
    StableHlo.binary main_v69 main_v62 main_v70 (mulf : (⟨S2048x2048, .f32⟩ : BufTy).Contents (Elt F) → (⟨S2048x2048, .f32⟩ : BufTy).Contents (Elt F) → (⟨S2048x2048, .f32⟩ : BufTy).Contents (Elt F)),
    StableHlo.binary main_v68 main_v70 main_v71 (subf : (⟨S2048x2048, .f32⟩ : BufTy).Contents (Elt F) → (⟨S2048x2048, .f32⟩ : BufTy).Contents (Elt F) → (⟨S2048x2048, .f32⟩ : BufTy).Contents (Elt F)) ]

/-- Stretch 6: its positive part: the overlap labels. -/
abbrev ops6 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S2048x2048, .f32⟩) (broadcastInDim S2048x2048 ![] bcast_S_S2048x2048),
    StableHlo.TRef.binary (.of main_v71 : StableHlo.TRef sig ⟨S2048x2048, .f32⟩) (.of main_call2_v0 : StableHlo.TRef sig ⟨S2048x2048, .f32⟩) (.of main_v72 : StableHlo.TRef sig ⟨S2048x2048, .f32⟩) maximumf ]

/-- Stretch 7: the arg-max of each row of the matching scores. -/
abbrev ops7 : List (HloOp τ sig (Elt F)) :=
  [ StableHlo.TRef.nullary (.of main_call3_v0 : StableHlo.TRef sig ⟨S2048x2048, .i32⟩) (iotaInDim S2048x2048 32 1),
    StableHlo.TRef.nullary (.of main_call3_cst : StableHlo.TRef sig ⟨S_, .f32⟩) (constant S_ .f32 0xFF800000#32),
    StableHlo.TRef.nullary (.of main_call3_c : StableHlo.TRef sig ⟨S_, .i32⟩) (constantI S_ 32 0#32),
    StableHlo.TRef.quaternary (.of main_v35 : StableHlo.TRef sig ⟨S2048x2048, .f32⟩) (.of main_call3_v0 : StableHlo.TRef sig ⟨S2048x2048, .i32⟩) (.of main_call3_cst : StableHlo.TRef sig ⟨S_, .f32⟩) (.of main_call3_c : StableHlo.TRef sig ⟨S_, .i32⟩) (.of main_call3_v1_0 : StableHlo.TRef sig ⟨S2048, .f32⟩) (fun x y u v j => (Host.argReduce reducer_argmax_f32_i32 x y u v reducesTo_S2048x2048_S2048_d1 h_S_ j).1),
    StableHlo.TRef.quaternary (.of main_v35 : StableHlo.TRef sig ⟨S2048x2048, .f32⟩) (.of main_call3_v0 : StableHlo.TRef sig ⟨S2048x2048, .i32⟩) (.of main_call3_cst : StableHlo.TRef sig ⟨S_, .f32⟩) (.of main_call3_c : StableHlo.TRef sig ⟨S_, .i32⟩) (.of main_v73 : StableHlo.TRef sig ⟨S2048, .i32⟩) (fun x y u v j => (Host.argReduce reducer_argmax_f32_i32 x y u v reducesTo_S2048x2048_S2048_d1 h_S_ j).2) ]

/-- Stretch 8: the arg-max of each column of the matching scores. -/
abbrev ops8 : List (HloOp τ sig (Elt F)) :=
  [ StableHlo.TRef.nullary (.of main_call4_v0 : StableHlo.TRef sig ⟨S2048x2048, .i32⟩) (iotaInDim S2048x2048 32 0),
    StableHlo.TRef.nullary (.of main_call4_cst : StableHlo.TRef sig ⟨S_, .f32⟩) (constant S_ .f32 0xFF800000#32),
    StableHlo.TRef.nullary (.of main_call4_c : StableHlo.TRef sig ⟨S_, .i32⟩) (constantI S_ 32 0#32),
    StableHlo.TRef.quaternary (.of main_v35 : StableHlo.TRef sig ⟨S2048x2048, .f32⟩) (.of main_call4_v0 : StableHlo.TRef sig ⟨S2048x2048, .i32⟩) (.of main_call4_cst : StableHlo.TRef sig ⟨S_, .f32⟩) (.of main_call4_c : StableHlo.TRef sig ⟨S_, .i32⟩) (.of main_call4_v1_0 : StableHlo.TRef sig ⟨S2048, .f32⟩) (fun x y u v j => (Host.argReduce reducer_argmax_f32_i32 x y u v reducesTo_S2048x2048_S2048_d0 h_S_ j).1),
    StableHlo.TRef.quaternary (.of main_v35 : StableHlo.TRef sig ⟨S2048x2048, .f32⟩) (.of main_call4_v0 : StableHlo.TRef sig ⟨S2048x2048, .i32⟩) (.of main_call4_cst : StableHlo.TRef sig ⟨S_, .f32⟩) (.of main_call4_c : StableHlo.TRef sig ⟨S_, .i32⟩) (.of main_v74 : StableHlo.TRef sig ⟨S2048, .i32⟩) (fun x y u v j => (Host.argReduce reducer_argmax_f32_i32 x y u v reducesTo_S2048x2048_S2048_d0 h_S_ j).2) ]

set_option maxHeartbeats 40000000 in
/-- Stretch 9: the mutual arg-max mask, and the distances from coarse points to fine points. -/
abbrev ops9 : List (HloOp τ sig (Elt F)) :=
  ( StableHlo.nullary main_c (constantI S_ 1 0#1)
  :: StableHlo.unary main_c main_v75 (broadcastInDim S2048x2048 ![] bcast_S_S2048x2048 : (⟨S_, .i1⟩ : BufTy).Contents (Elt F) → (⟨S2048x2048, .i1⟩ : BufTy).Contents (Elt F))
  :: StableHlo.nullary main_v76 (iotaInDim S2048 32 0)
  :: StableHlo.nullary main_c_15 (constantI S_ 32 0#32)
  :: StableHlo.unary main_c_15 main_v77 (broadcastInDim S2048 ![] bcast_S_S2048 : (⟨S_, .i32⟩ : BufTy).Contents (Elt F) → (⟨S2048, .i32⟩ : BufTy).Contents (Elt F))
  :: StableHlo.binary main_v76 main_v77 main_v78 (cmpi .slt : (⟨S2048, .i32⟩ : BufTy).Contents (Elt F) → (⟨S2048, .i32⟩ : BufTy).Contents (Elt F) → (⟨S2048, .i1⟩ : BufTy).Contents (Elt F))
  :: StableHlo.nullary main_c_16 (constantI S_ 32 2048#32)
  :: StableHlo.unary main_c_16 main_v79 (broadcastInDim S2048 ![] bcast_S_S2048 : (⟨S_, .i32⟩ : BufTy).Contents (Elt F) → (⟨S2048, .i32⟩ : BufTy).Contents (Elt F))
  :: StableHlo.binary main_v76 main_v79 main_v80 (addi : (⟨S2048, .i32⟩ : BufTy).Contents (Elt F) → (⟨S2048, .i32⟩ : BufTy).Contents (Elt F) → (⟨S2048, .i32⟩ : BufTy).Contents (Elt F))
  :: StableHlo.ternary main_v78 main_v80 main_v76 main_v81 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_17 (constantI S_ 32 0#32)
  :: StableHlo.unary main_c_17 main_v82 (broadcastInDim S2048 ![] bcast_S_S2048 : (⟨S_, .i32⟩ : BufTy).Contents (Elt F) → (⟨S2048, .i32⟩ : BufTy).Contents (Elt F))
  :: StableHlo.binary main_v73 main_v82 main_v83 (cmpi .slt : (⟨S2048, .i32⟩ : BufTy).Contents (Elt F) → (⟨S2048, .i32⟩ : BufTy).Contents (Elt F) → (⟨S2048, .i1⟩ : BufTy).Contents (Elt F))
  :: StableHlo.nullary main_c_18 (constantI S_ 32 2048#32)
  :: StableHlo.unary main_c_18 main_v84 (broadcastInDim S2048 ![] bcast_S_S2048 : (⟨S_, .i32⟩ : BufTy).Contents (Elt F) → (⟨S2048, .i32⟩ : BufTy).Contents (Elt F))
  :: StableHlo.binary main_v73 main_v84 main_v85 (addi : (⟨S2048, .i32⟩ : BufTy).Contents (Elt F) → (⟨S2048, .i32⟩ : BufTy).Contents (Elt F) → (⟨S2048, .i32⟩ : BufTy).Contents (Elt F))
  :: StableHlo.ternary main_v83 main_v85 main_v73 main_v86 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v81 main_v87 (broadcastInDim S2048x1 ![0] bcast_S2048_S2048x1_0 : (⟨S2048, .i32⟩ : BufTy).Contents (Elt F) → (⟨S2048x1, .i32⟩ : BufTy).Contents (Elt F))
  :: StableHlo.unary main_v86 main_v88 (broadcastInDim S2048x1 ![0] bcast_S2048_S2048x1_0 : (⟨S2048, .i32⟩ : BufTy).Contents (Elt F) → (⟨S2048x1, .i32⟩ : BufTy).Contents (Elt F))
  :: StableHlo.binary main_v87 main_v88 main_v89 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.nullary main_c_19 (constantI S_ 1 1#1)
  :: StableHlo.unary main_c_19 main_v90 (broadcastInDim S2048 ![] bcast_S_S2048 : (⟨S_, .i1⟩ : BufTy).Contents (Elt F) → (⟨S2048, .i1⟩ : BufTy).Contents (Elt F))
  :: StableHlo.ternary main_v75 main_v89 main_v90 main_v91 ((fun x i u => Host.scatter scatter_S2048x2048_S2048x2_S2048_n_01_01_1 (fun _ b => b) x i u) : (⟨S2048x2048, .i1⟩ : BufTy).Contents (Elt F) → (⟨S2048x2, .i32⟩ : BufTy).Contents (Elt F) → (⟨S2048, .i1⟩ : BufTy).Contents (Elt F) → (⟨S2048x2048, .i1⟩ : BufTy).Contents (Elt F))
  :: StableHlo.nullary main_c_20 (constantI S_ 1 0#1)
  :: StableHlo.unary main_c_20 main_v92 (broadcastInDim S2048x2048 ![] bcast_S_S2048x2048 : (⟨S_, .i1⟩ : BufTy).Contents (Elt F) → (⟨S2048x2048, .i1⟩ : BufTy).Contents (Elt F))
  :: StableHlo.nullary main_v93 (iotaInDim S2048 32 0)
  :: StableHlo.nullary main_c_21 (constantI S_ 32 0#32)
  :: StableHlo.unary main_c_21 main_v94 (broadcastInDim S2048 ![] bcast_S_S2048 : (⟨S_, .i32⟩ : BufTy).Contents (Elt F) → (⟨S2048, .i32⟩ : BufTy).Contents (Elt F))
  :: StableHlo.binary main_v74 main_v94 main_v95 (cmpi .slt : (⟨S2048, .i32⟩ : BufTy).Contents (Elt F) → (⟨S2048, .i32⟩ : BufTy).Contents (Elt F) → (⟨S2048, .i1⟩ : BufTy).Contents (Elt F))
  :: StableHlo.nullary main_c_22 (constantI S_ 32 2048#32)
  :: StableHlo.unary main_c_22 main_v96 (broadcastInDim S2048 ![] bcast_S_S2048 : (⟨S_, .i32⟩ : BufTy).Contents (Elt F) → (⟨S2048, .i32⟩ : BufTy).Contents (Elt F))
  :: StableHlo.binary main_v74 main_v96 main_v97 (addi : (⟨S2048, .i32⟩ : BufTy).Contents (Elt F) → (⟨S2048, .i32⟩ : BufTy).Contents (Elt F) → (⟨S2048, .i32⟩ : BufTy).Contents (Elt F))
  :: StableHlo.ternary main_v95 main_v97 main_v74 main_v98 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_23 (constantI S_ 32 0#32)
  :: StableHlo.unary main_c_23 main_v99 (broadcastInDim S2048 ![] bcast_S_S2048 : (⟨S_, .i32⟩ : BufTy).Contents (Elt F) → (⟨S2048, .i32⟩ : BufTy).Contents (Elt F))
  :: StableHlo.binary main_v93 main_v99 main_v100 (cmpi .slt : (⟨S2048, .i32⟩ : BufTy).Contents (Elt F) → (⟨S2048, .i32⟩ : BufTy).Contents (Elt F) → (⟨S2048, .i1⟩ : BufTy).Contents (Elt F))
  :: StableHlo.nullary main_c_24 (constantI S_ 32 2048#32)
  :: StableHlo.unary main_c_24 main_v101 (broadcastInDim S2048 ![] bcast_S_S2048 : (⟨S_, .i32⟩ : BufTy).Contents (Elt F) → (⟨S2048, .i32⟩ : BufTy).Contents (Elt F))
  :: StableHlo.binary main_v93 main_v101 main_v102 (addi : (⟨S2048, .i32⟩ : BufTy).Contents (Elt F) → (⟨S2048, .i32⟩ : BufTy).Contents (Elt F) → (⟨S2048, .i32⟩ : BufTy).Contents (Elt F))
  :: StableHlo.ternary main_v100 main_v102 main_v93 main_v103 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v98 main_v104 (broadcastInDim S2048x1 ![0] bcast_S2048_S2048x1_0 : (⟨S2048, .i32⟩ : BufTy).Contents (Elt F) → (⟨S2048x1, .i32⟩ : BufTy).Contents (Elt F))
  :: StableHlo.unary main_v103 main_v105 (broadcastInDim S2048x1 ![0] bcast_S2048_S2048x1_0 : (⟨S2048, .i32⟩ : BufTy).Contents (Elt F) → (⟨S2048x1, .i32⟩ : BufTy).Contents (Elt F))
  :: StableHlo.binary main_v104 main_v105 main_v106 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.nullary main_c_25 (constantI S_ 1 1#1)
  :: StableHlo.unary main_c_25 main_v107 (broadcastInDim S2048 ![] bcast_S_S2048 : (⟨S_, .i1⟩ : BufTy).Contents (Elt F) → (⟨S2048, .i1⟩ : BufTy).Contents (Elt F))
  :: StableHlo.ternary main_v92 main_v106 main_v107 main_v108 ((fun x i u => Host.scatter scatter_S2048x2048_S2048x2_S2048_n_01_01_1 (fun _ b => b) x i u) : (⟨S2048x2048, .i1⟩ : BufTy).Contents (Elt F) → (⟨S2048x2, .i32⟩ : BufTy).Contents (Elt F) → (⟨S2048, .i1⟩ : BufTy).Contents (Elt F) → (⟨S2048x2048, .i1⟩ : BufTy).Contents (Elt F))
  :: StableHlo.binary main_v91 main_v108 main_v109 (andi : (⟨S2048x2048, .i1⟩ : BufTy).Contents (Elt F) → (⟨S2048x2048, .i1⟩ : BufTy).Contents (Elt F) → (⟨S2048x2048, .i1⟩ : BufTy).Contents (Elt F))
  :: StableHlo.binary main_arg0 main_arg0 main_v110 (mulf : (⟨S2048x3, .f32⟩ : BufTy).Contents (Elt F) → (⟨S2048x3, .f32⟩ : BufTy).Contents (Elt F) → (⟨S2048x3, .f32⟩ : BufTy).Contents (Elt F))
  :: StableHlo.nullary main_cst_26 (constant S_ .f32 0x00000000#32)
  :: StableHlo.binary main_v110 main_cst_26 main_v111 ((fun x v => Host.reduceAdd x v reducesTo_S2048x3_S2048_d1 h_S_) : (⟨S2048x3, .f32⟩ : BufTy).Contents (Elt F) → (⟨S_, .f32⟩ : BufTy).Contents (Elt F) → (⟨S2048, .f32⟩ : BufTy).Contents (Elt F))
  :: StableHlo.unary main_v111 main_v112 (broadcastInDim S2048x1 ![0] bcast_S2048_S2048x1_0 : (⟨S2048, .f32⟩ : BufTy).Contents (Elt F) → (⟨S2048x1, .f32⟩ : BufTy).Contents (Elt F))
  :: StableHlo.binary main_arg4 main_arg4 main_v113 (mulf : (⟨S32768x3, .f32⟩ : BufTy).Contents (Elt F) → (⟨S32768x3, .f32⟩ : BufTy).Contents (Elt F) → (⟨S32768x3, .f32⟩ : BufTy).Contents (Elt F))
  :: StableHlo.nullary main_cst_27 (constant S_ .f32 0x00000000#32)
  :: StableHlo.binary main_v113 main_cst_27 main_v114 ((fun x v => Host.reduceAdd x v reducesTo_S32768x3_S32768_d1 h_S_) : (⟨S32768x3, .f32⟩ : BufTy).Contents (Elt F) → (⟨S_, .f32⟩ : BufTy).Contents (Elt F) → (⟨S32768, .f32⟩ : BufTy).Contents (Elt F))
  :: StableHlo.unary main_v114 main_v115 (broadcastInDim S1x32768 ![1] bcast_S32768_S1x32768_1 : (⟨S32768, .f32⟩ : BufTy).Contents (Elt F) → (⟨S1x32768, .f32⟩ : BufTy).Contents (Elt F))
  :: StableHlo.unary main_v112 main_v116 (broadcastInDim S2048x32768 ![0, 1] bcast_S2048x1_S2048x32768_0_1 : (⟨S2048x1, .f32⟩ : BufTy).Contents (Elt F) → (⟨S2048x32768, .f32⟩ : BufTy).Contents (Elt F))
  :: StableHlo.unary main_v115 main_v117 (broadcastInDim S2048x32768 ![0, 1] bcast_S1x32768_S2048x32768_0_1 : (⟨S1x32768, .f32⟩ : BufTy).Contents (Elt F) → (⟨S2048x32768, .f32⟩ : BufTy).Contents (Elt F))
  :: StableHlo.binary main_v116 main_v117 main_v118 (addf : (⟨S2048x32768, .f32⟩ : BufTy).Contents (Elt F) → (⟨S2048x32768, .f32⟩ : BufTy).Contents (Elt F) → (⟨S2048x32768, .f32⟩ : BufTy).Contents (Elt F))
  :: StableHlo.unary main_arg4 main_v119 ((transpose S3x32768 [1, 0] · transposes_S32768x3_S3x32768_1_0) : (⟨S32768x3, .f32⟩ : BufTy).Contents (Elt F) → (⟨S3x32768, .f32⟩ : BufTy).Contents (Elt F))
  :: StableHlo.binary main_arg0 main_v119 main_v120 ((fun l r => Host.dotGeneral dot_S2048x3_S3x32768_S2048x32768_1_0_0_1_n_n none l r) : (⟨S2048x3, .f32⟩ : BufTy).Contents (Elt F) → (⟨S3x32768, .f32⟩ : BufTy).Contents (Elt F) → (⟨S2048x32768, .f32⟩ : BufTy).Contents (Elt F))
  :: StableHlo.nullary main_cst_28 (constant S_ .f32 0x40000000#32)
  :: StableHlo.unary main_cst_28 main_v121 (broadcastInDim S2048x32768 ![] bcast_S_S2048x32768 : (⟨S_, .f32⟩ : BufTy).Contents (Elt F) → (⟨S2048x32768, .f32⟩ : BufTy).Contents (Elt F))
  :: StableHlo.binary main_v121 main_v120 main_v122 (mulf : (⟨S2048x32768, .f32⟩ : BufTy).Contents (Elt F) → (⟨S2048x32768, .f32⟩ : BufTy).Contents (Elt F) → (⟨S2048x32768, .f32⟩ : BufTy).Contents (Elt F))
  :: StableHlo.binary main_v118 main_v122 main_v123 (subf : (⟨S2048x32768, .f32⟩ : BufTy).Contents (Elt F) → (⟨S2048x32768, .f32⟩ : BufTy).Contents (Elt F) → (⟨S2048x32768, .f32⟩ : BufTy).Contents (Elt F))
  :: StableHlo.nullary main_cst_29 (constant S_ .f32 0x00000000#32)
  :: [] )

/-- Stretch 10: their clipping below by zero. -/
abbrev ops10 : List (HloOp τ sig (Elt F)) :=
  [ StableHlo.TRef.unary (.of main_cst_29 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S2048x32768, .f32⟩) (broadcastInDim S2048x32768 ![] bcast_S_S2048x32768),
    StableHlo.TRef.binary (.of main_call5_v1 : StableHlo.TRef sig ⟨S2048x32768, .f32⟩) (.of main_v123 : StableHlo.TRef sig ⟨S2048x32768, .f32⟩) (.of main_v124 : StableHlo.TRef sig ⟨S2048x32768, .f32⟩) maximumf ]

/-- Stretch 11: the nearest neighbours and their distances. -/
abbrev ops11 : List (HloOp τ sig (Elt F)) :=
  [ StableHlo.unary main_v124 main_v125 (Host.sqrt : (⟨S2048x32768, .f32⟩ : BufTy).Contents (Elt F) → (⟨S2048x32768, .f32⟩ : BufTy).Contents (Elt F)),
    StableHlo.unary main_v125 main_v126 (Host.negf : (⟨S2048x32768, .f32⟩ : BufTy).Contents (Elt F) → (⟨S2048x32768, .f32⟩ : BufTy).Contents (Elt F)),
    StableHlo.unary main_v126 main_values ((fun x => (Host.topK S2048x64 1 (FloatOps.cmpfTotal .gt) x sliceFits_S2048x32768_S2048x64).1) : (⟨S2048x32768, .f32⟩ : BufTy).Contents (Elt F) → (⟨S2048x64, .f32⟩ : BufTy).Contents (Elt F)),
    StableHlo.unary main_v126 main_indices ((fun x => (Host.topK S2048x64 1 (FloatOps.cmpfTotal .gt) x sliceFits_S2048x32768_S2048x64).2) : (⟨S2048x32768, .f32⟩ : BufTy).Contents (Elt F) → (⟨S2048x64, .i32⟩ : BufTy).Contents (Elt F)),
    StableHlo.unary main_values main_v127 (Host.negf : (⟨S2048x64, .f32⟩ : BufTy).Contents (Elt F) → (⟨S2048x64, .f32⟩ : BufTy).Contents (Elt F)) ]

/-- Stretch 12: the gathered neighbour features. -/
abbrev ops12 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S2048x64, .i32⟩) (broadcastInDim S2048x64 ![] bcast_S_S2048x64),
    StableHlo.TRef.binary (.of main_indices : StableHlo.TRef sig ⟨S2048x64, .i32⟩) (.of main_call6_v0 : StableHlo.TRef sig ⟨S2048x64, .i32⟩) (.of main_call6_v1 : StableHlo.TRef sig ⟨S2048x64, .i1⟩) (cmpi .slt),
    StableHlo.TRef.nullary (.of main_call6_c_0 : StableHlo.TRef sig ⟨S_, .i32⟩) (constantI S_ 32 32768#32),
    StableHlo.TRef.unary (.of main_call6_c_0 : StableHlo.TRef sig ⟨S_, .i32⟩) (.of main_call6_v2 : StableHlo.TRef sig ⟨S2048x64, .i32⟩) (broadcastInDim S2048x64 ![] bcast_S_S2048x64),
    StableHlo.TRef.binary (.of main_indices : StableHlo.TRef sig ⟨S2048x64, .i32⟩) (.of main_call6_v2 : StableHlo.TRef sig ⟨S2048x64, .i32⟩) (.of main_call6_v3 : StableHlo.TRef sig ⟨S2048x64, .i32⟩) addi,
    StableHlo.TRef.ternary (.of main_call6_v1 : StableHlo.TRef sig ⟨S2048x64, .i1⟩) (.of main_call6_v3 : StableHlo.TRef sig ⟨S2048x64, .i32⟩) (.of main_indices : StableHlo.TRef sig ⟨S2048x64, .i32⟩) (.of main_call6_v4 : StableHlo.TRef sig ⟨S2048x64, .i32⟩) select,
    StableHlo.TRef.unary main_call6_call0.v0 (.of main_call6_v5 : StableHlo.TRef sig ⟨S2048x64x1, .i32⟩) (broadcastInDim S2048x64x1 ![0, 1] bcast_S2048x64_S2048x64x1_0_1),
    StableHlo.TRef.nullary (.of main_call6_c_1 : StableHlo.TRef sig ⟨S1, .i32⟩) (constantI S1 32 32767#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S2048x64x1, .i32⟩) (broadcastInDim S2048x64x1 ![] bcast_S_S2048x64x1),
    StableHlo.TRef.binary (.of main_call6_v5 : StableHlo.TRef sig ⟨S2048x64x1, .i32⟩) (.of main_call6_v6 : StableHlo.TRef sig ⟨S2048x64x1, .i32⟩) (.of main_call6_v7 : StableHlo.TRef sig ⟨S2048x64x1, .i1⟩) (cmpi .sge),
    StableHlo.TRef.unary (.of main_call6_c_1 : StableHlo.TRef sig ⟨S1, .i32⟩) (.of main_call6_v8 : StableHlo.TRef sig ⟨S1x1x1, .i32⟩) (broadcastInDim S1x1x1 ![2] bcast_S1_S1x1x1_2),
    StableHlo.TRef.unary (.of main_call6_v8 : StableHlo.TRef sig ⟨S1x1x1, .i32⟩) (.of main_call6_v9 : StableHlo.TRef sig ⟨S2048x64x1, .i32⟩) (broadcastInDim S2048x64x1 ![0, 1, 2] bcast_S1x1x1_S2048x64x1_0_1_2),
    StableHlo.TRef.binary (.of main_call6_v5 : StableHlo.TRef sig ⟨S2048x64x1, .i32⟩) (.of main_call6_v9 : StableHlo.TRef sig ⟨S2048x64x1, .i32⟩) (.of main_call6_v10 : StableHlo.TRef sig ⟨S2048x64x1, .i1⟩) (cmpi .sle),
    StableHlo.TRef.binary (.of main_call6_v7 : StableHlo.TRef sig ⟨S2048x64x1, .i1⟩) (.of main_call6_v10 : StableHlo.TRef sig ⟨S2048x64x1, .i1⟩) (.of main_call6_v11 : StableHlo.TRef sig ⟨S2048x64x1, .i1⟩) andi,
    StableHlo.TRef.nullary (.of main_call6_c_3 : StableHlo.TRef sig ⟨S_, .i1⟩) (constantI S_ 1 1#1),
    StableHlo.TRef.binary (.of main_call6_v11 : StableHlo.TRef sig ⟨S2048x64x1, .i1⟩) (.of main_call6_c_3 : StableHlo.TRef sig ⟨S_, .i1⟩) (.of main_call6_v12 : StableHlo.TRef sig ⟨S2048x64, .i1⟩) (fun x v => Host.reduce IntOp.andi x v reducesTo_S2048x64x1_S2048x64_d2 h_S_),
    StableHlo.TRef.binary (.of main_arg5 : StableHlo.TRef sig ⟨S32768x128, .f32⟩) (.of main_call6_v5 : StableHlo.TRef sig ⟨S2048x64x1, .i32⟩) (.of main_call6_v13 : StableHlo.TRef sig ⟨S2048x64x128, .f32⟩) (fun x i => Host.gather gather_S32768x128_S2048x64x1_S2048x64x128_2_0_n_n_0_2_1128 x i),
    StableHlo.TRef.unary (.of main_call6_v12 : StableHlo.TRef sig ⟨S2048x64, .i1⟩) (.of main_call6_v14 : StableHlo.TRef sig ⟨S2048x64x128, .i1⟩) (broadcastInDim S2048x64x128 ![0, 1] bcast_S2048x64_S2048x64x128_0_1),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v15 : StableHlo.TRef sig ⟨S2048x64x128, .f32⟩) (broadcastInDim S2048x64x128 ![] bcast_S_S2048x64x128),
    StableHlo.TRef.ternary (.of main_call6_v14 : StableHlo.TRef sig ⟨S2048x64x128, .i1⟩) (.of main_call6_v13 : StableHlo.TRef sig ⟨S2048x64x128, .f32⟩) (.of main_call6_v15 : StableHlo.TRef sig ⟨S2048x64x128, .f32⟩) (.of main_v128 : StableHlo.TRef sig ⟨S2048x64x128, .f32⟩) select ]

/-- The whole line, stretch after stretch. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12))))))))))))

/-- The reference's program is that line. -/
theorem main_isSeq (d : Dev nD) : StableHlo.IsSeq (main (F := F) d) ops := by
  unfold StableHlo.IsSeq
  chain_rfl

/-- Stretch 0 touches buffers of the TensorCore only. -/
theorem ops0_sub : (ops0 : List (HloOp τ sig (Elt F))).Forall fun op => op.bufs ⊆ StableHlo.tcRefs τ sig := by simp
/-- Stretch 0 allocates no buffer. -/
theorem ops0_fresh : (ops0 : List (HloOp τ sig (Elt F))).Forall fun op => op.fresh = ∅ := by
  exact ⟨rfl, rfl, rfl, rfl, rfl, rfl, rfl, rfl⟩
/-- Stretch 1 touches buffers of the TensorCore only. -/
theorem ops1_sub : (ops1 : List (HloOp τ sig (Elt F))).Forall fun op => op.bufs ⊆ StableHlo.tcRefs τ sig := by simp
/-- Stretch 1 allocates no buffer. -/
theorem ops1_fresh : (ops1 : List (HloOp τ sig (Elt F))).Forall fun op => op.fresh = ∅ := by
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Stretch 2 touches buffers of the TensorCore only. -/
theorem ops2_sub : (ops2 : List (HloOp τ sig (Elt F))).Forall fun op => op.bufs ⊆ StableHlo.tcRefs τ sig := by simp
/-- Stretch 2 allocates no buffer. -/
theorem ops2_fresh : (ops2 : List (HloOp τ sig (Elt F))).Forall fun op => op.fresh = ∅ := by
  exact ⟨rfl, rfl, rfl⟩
/-- Stretch 3 touches buffers of the TensorCore only. -/
theorem ops3_sub : (ops3 : List (HloOp τ sig (Elt F))).Forall fun op => op.bufs ⊆ StableHlo.tcRefs τ sig := by simp
/-- Stretch 3 allocates no buffer. -/
theorem ops3_fresh : (ops3 : List (HloOp τ sig (Elt F))).Forall fun op => op.fresh = ∅ := by
  exact ⟨rfl, rfl, rfl, rfl, rfl⟩
/-- Stretch 4 touches buffers of the TensorCore only. -/
theorem ops4_sub : (ops4 : List (HloOp τ sig (Elt F))).Forall fun op => op.bufs ⊆ StableHlo.tcRefs τ sig := by simp
/-- Stretch 4 allocates no buffer. -/
theorem ops4_fresh : (ops4 : List (HloOp τ sig (Elt F))).Forall fun op => op.fresh = ∅ := by
  exact ⟨rfl, rfl, rfl⟩
/-- Stretch 5 touches buffers of the TensorCore only. -/
theorem ops5_sub : (ops5 : List (HloOp τ sig (Elt F))).Forall fun op => op.bufs ⊆ StableHlo.tcRefs τ sig := by simp
/-- Stretch 5 allocates no buffer. -/
theorem ops5_fresh : (ops5 : List (HloOp τ sig (Elt F))).Forall fun op => op.fresh = ∅ := by
  exact ⟨rfl, rfl, rfl, rfl, rfl, rfl, rfl, rfl, rfl, rfl, rfl, rfl⟩
/-- Stretch 6 touches buffers of the TensorCore only. -/
theorem ops6_sub : (ops6 : List (HloOp τ sig (Elt F))).Forall fun op => op.bufs ⊆ StableHlo.tcRefs τ sig := by simp
/-- Stretch 6 allocates no buffer. -/
theorem ops6_fresh : (ops6 : List (HloOp τ sig (Elt F))).Forall fun op => op.fresh = ∅ := by
  exact ⟨rfl, rfl, rfl⟩
/-- Stretch 7 touches buffers of the TensorCore only. -/
theorem ops7_sub : (ops7 : List (HloOp τ sig (Elt F))).Forall fun op => op.bufs ⊆ StableHlo.tcRefs τ sig := by simp
/-- Stretch 7 allocates no buffer. -/
theorem ops7_fresh : (ops7 : List (HloOp τ sig (Elt F))).Forall fun op => op.fresh = ∅ := by
  exact ⟨rfl, rfl, rfl, rfl, rfl⟩
/-- Stretch 8 touches buffers of the TensorCore only. -/
theorem ops8_sub : (ops8 : List (HloOp τ sig (Elt F))).Forall fun op => op.bufs ⊆ StableHlo.tcRefs τ sig := by simp
/-- Stretch 8 allocates no buffer. -/
theorem ops8_fresh : (ops8 : List (HloOp τ sig (Elt F))).Forall fun op => op.fresh = ∅ := by
  exact ⟨rfl, rfl, rfl, rfl, rfl⟩
/-- Stretch 9 touches buffers of the TensorCore only. -/
theorem ops9_sub : (ops9 : List (HloOp τ sig (Elt F))).Forall fun op => op.bufs ⊆ StableHlo.tcRefs τ sig := by simp
/-- Stretch 9 allocates no buffer. -/
theorem ops9_fresh : (ops9 : List (HloOp τ sig (Elt F))).Forall fun op => op.fresh = ∅ := by
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Stretch 10 touches buffers of the TensorCore only. -/
theorem ops10_sub : (ops10 : List (HloOp τ sig (Elt F))).Forall fun op => op.bufs ⊆ StableHlo.tcRefs τ sig := by simp
/-- Stretch 10 allocates no buffer. -/
theorem ops10_fresh : (ops10 : List (HloOp τ sig (Elt F))).Forall fun op => op.fresh = ∅ := by
  exact ⟨rfl, rfl, rfl⟩
/-- Stretch 11 touches buffers of the TensorCore only. -/
theorem ops11_sub : (ops11 : List (HloOp τ sig (Elt F))).Forall fun op => op.bufs ⊆ StableHlo.tcRefs τ sig := by simp
/-- Stretch 11 allocates no buffer. -/
theorem ops11_fresh : (ops11 : List (HloOp τ sig (Elt F))).Forall fun op => op.fresh = ∅ := by
  exact ⟨rfl, rfl, rfl, rfl, rfl⟩
/-- Stretch 12 touches buffers of the TensorCore only. -/
theorem ops12_sub : (ops12 : List (HloOp τ sig (Elt F))).Forall fun op => op.bufs ⊆ StableHlo.tcRefs τ sig := by simp
/-- Stretch 12 allocates no buffer. -/
theorem ops12_fresh : (ops12 : List (HloOp τ sig (Elt F))).Forall fun op => op.fresh = ∅ := by
  exact ⟨rfl, rfl, rfl, rfl, rfl, rfl, rfl, rfl, rfl, rfl, rfl, rfl, rfl, rfl, rfl, rfl, rfl, rfl, rfl, rfl, rfl, rfl, rfl⟩

/-- The whole line touches buffers of the TensorCore only. -/
theorem ops_sub : (ops : List (HloOp τ sig (Elt F))).Forall fun op => op.bufs ⊆ StableHlo.tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, List.forall_append.mpr ⟨ops7_sub, List.forall_append.mpr ⟨ops8_sub, List.forall_append.mpr ⟨ops9_sub, List.forall_append.mpr ⟨ops10_sub, List.forall_append.mpr ⟨ops11_sub, ops12_sub⟩⟩⟩⟩⟩⟩⟩⟩⟩⟩⟩⟩
/-- The whole line allocates no buffer. -/
theorem ops_fresh : (ops : List (HloOp τ sig (Elt F))).Forall fun op => op.fresh = ∅ :=
  List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, List.forall_append.mpr ⟨ops6_fresh, List.forall_append.mpr ⟨ops7_fresh, List.forall_append.mpr ⟨ops8_fresh, List.forall_append.mpr ⟨ops9_fresh, List.forall_append.mpr ⟨ops10_fresh, List.forall_append.mpr ⟨ops11_fresh, ops12_fresh⟩⟩⟩⟩⟩⟩⟩⟩⟩⟩⟩⟩

variable (m : (ℓ : Loc nD τ sig) → Buf (Elt F) ℓ) (ρ : Dev nD → PrngReg)

/-- The contents of the buffers after stretch 0. -/
def U0 (d : Dev nD) : Valuation τ sig (Elt F) := StableHlo.after ops0 (StableHlo.launchContents m d)
/-- The contents of the buffers after stretch 1. -/
def U1 (d : Dev nD) : Valuation τ sig (Elt F) := StableHlo.after ops1 (U0 m d)
/-- The contents of the buffers after stretch 2. -/
def U2 (d : Dev nD) : Valuation τ sig (Elt F) := StableHlo.after ops2 (U1 m d)
/-- The contents of the buffers after stretch 3. -/
def U3 (d : Dev nD) : Valuation τ sig (Elt F) := StableHlo.after ops3 (U2 m d)
/-- The contents of the buffers after stretch 4. -/
def U4 (d : Dev nD) : Valuation τ sig (Elt F) := StableHlo.after ops4 (U3 m d)
/-- The contents of the buffers after stretch 5. -/
def U5 (d : Dev nD) : Valuation τ sig (Elt F) := StableHlo.after ops5 (U4 m d)
/-- The contents of the buffers after stretch 6. -/
def U6 (d : Dev nD) : Valuation τ sig (Elt F) := StableHlo.after ops6 (U5 m d)
/-- The contents of the buffers after stretch 7. -/
def U7 (d : Dev nD) : Valuation τ sig (Elt F) := StableHlo.after ops7 (U6 m d)
/-- The contents of the buffers after stretch 8. -/
def U8 (d : Dev nD) : Valuation τ sig (Elt F) := StableHlo.after ops8 (U7 m d)
/-- The contents of the buffers after stretch 9. -/
def U9 (d : Dev nD) : Valuation τ sig (Elt F) := StableHlo.after ops9 (U8 m d)
/-- The contents of the buffers after stretch 10. -/
def U10 (d : Dev nD) : Valuation τ sig (Elt F) := StableHlo.after ops10 (U9 m d)
/-- The contents of the buffers after stretch 11. -/
def U11 (d : Dev nD) : Valuation τ sig (Elt F) := StableHlo.after ops11 (U10 m d)
/-- The contents of the buffers after stretch 12. -/
def U12 (d : Dev nD) : Valuation τ sig (Elt F) := StableHlo.after ops12 (U11 m d)

/-- What the whole line leaves is what its last stretch leaves. -/
theorem after_ops (d : Dev nD) : StableHlo.after ops (StableHlo.launchContents m d) = U12 m d := by
  unfold ops
  simp only [StableHlo.after_append]
  rfl

/-- The reference's run: every buffer ends at the contents after the last stretch. -/
theorem run : θ_run defs (onTc (τ := τ) (main (F := F))) ⟨m, fun _ => 0, ρ⟩ fun r =>
    ∀ (d : Dev nD) (b : Ref sig .tc), r.2.mem ((d.tc : Thread nD τ).loc b) = U12 m d (Proc.devRef .tc b) :=
  θ_run_mono (StableHlo.run_hlo defs main main_isSeq (by decide) (by decide) ops_sub
    (fun op h => (List.forall_iff_forall_mem.mp ops_fresh) op h) m ρ)
    fun r h d b => (h d b).trans (by rw [after_ops])

/-! ## What each stretch leaves alone -/

/-- The argument arrays. -/
abbrev args : List (Ref sig .tc) := [main_arg0, main_arg1, main_arg2, main_arg3, main_arg4, main_arg5, main_arg6, main_arg7, main_arg8]

/-- The buffers that stretch 0 writes. -/
abbrev ops0_W : List (Ref sig .tc) := [main_v0, main_v1, main_v2, main_v3, main_v4, main_v5, main_v6, main_v7]
/-- It writes those only. -/
theorem ops0_writes : (ops0 : List (HloOp τ sig (Elt F))).Forall fun op => op.writes ⊆ (ops0_W.map (Proc.devRef (τ := τ) .tc)).toFinset :=
  StableHlo.forall_writes_sub_of_map rfl
/-- A buffer that stretch 0 does not write keeps its contents across it. -/
theorem U0_of (d : Dev nD) (r : Ref sig .tc) (h : r ∉ ops0_W) : U0 m d (Proc.devRef .tc r) = StableHlo.launchContents m d (Proc.devRef .tc r) :=
  StableHlo.after_of_writes_sub ops0 _ ops0_writes h
/-- The arguments are as launched after stretch 0. -/
theorem U0_args (d : Dev nD) : ∀ a ∈ args, U0 m d (Proc.devRef .tc a) = m ((d.tc : Thread nD τ).loc a) :=
  fun a ha => (U0_of m d a ((ListAll.forall_mem_of_all_decide (p := fun a => a ∉ ops0_W) (by decide +kernel)) a ha)).trans (rfl)
/-- The buffers that stretch 1 writes. -/
abbrev ops1_W : List (Ref sig .tc) := [main_v8, main_v9, main_cst, main_v10, main_v11, main_v12, main_cst_0, main_v13, main_cst_1, main_v14, main_v15, main_v16, main_v17, main_v18, main_v19, main_cst_2, main_v20, main_v21, main_v22, main_v23, main_cst_3, main_v24, main_cst_4, main_v25, main_v26, main_v27, main_v28, main_v29, main_v30, main_cst_5, main_v31, main_v32, main_v33, main_v34, main_v35, main_v36, main_v37, main_v38, main_v39, main_v40, main_v41, main_v42, main_v43, main_v44, main_cst_6, main_v45, main_v46, main_v47, main_cst_7, main_v48, main_v49, main_v50, main_v51, main_v52, main_v53, main_v54, main_cst_8, main_v55, main_v56, main_v57, main_cst_9]
/-- It writes those only. -/
theorem ops1_writes : (ops1 : List (HloOp τ sig (Elt F))).Forall fun op => op.writes ⊆ (ops1_W.map (Proc.devRef (τ := τ) .tc)).toFinset :=
  StableHlo.forall_writes_sub_of_map rfl
/-- A buffer that stretch 1 does not write keeps its contents across it. -/
theorem U1_of (d : Dev nD) (r : Ref sig .tc) (h : r ∉ ops1_W) : U1 m d (Proc.devRef .tc r) = U0 m d (Proc.devRef .tc r) :=
  StableHlo.after_of_writes_sub ops1 _ ops1_writes h
/-- The arguments are as launched after stretch 1. -/
theorem U1_args (d : Dev nD) : ∀ a ∈ args, U1 m d (Proc.devRef .tc a) = m ((d.tc : Thread nD τ).loc a) :=
  fun a ha => (U1_of m d a ((ListAll.forall_mem_of_all_decide (p := fun a => a ∉ ops1_W) (by decide +kernel)) a ha)).trans (U0_args m d a ha)
/-- The buffers that stretch 2 writes. -/
abbrev ops2_W : List (Ref sig .tc) := [main_call0_v0, main_call0_v1, main_v58]
/-- It writes those only. -/
theorem ops2_writes : (ops2 : List (HloOp τ sig (Elt F))).Forall fun op => op.writes ⊆ (ops2_W.map (Proc.devRef (τ := τ) .tc)).toFinset :=
  StableHlo.forall_writes_sub_of_map rfl
/-- A buffer that stretch 2 does not write keeps its contents across it. -/
theorem U2_of (d : Dev nD) (r : Ref sig .tc) (h : r ∉ ops2_W) : U2 m d (Proc.devRef .tc r) = U1 m d (Proc.devRef .tc r) :=
  StableHlo.after_of_writes_sub ops2 _ ops2_writes h
/-- The arguments are as launched after stretch 2. -/
theorem U2_args (d : Dev nD) : ∀ a ∈ args, U2 m d (Proc.devRef .tc a) = m ((d.tc : Thread nD τ).loc a) :=
  fun a ha => (U2_of m d a ((ListAll.forall_mem_of_all_decide (p := fun a => a ∉ ops2_W) (by decide +kernel)) a ha)).trans (U1_args m d a ha)
/-- The buffers that stretch 3 writes. -/
abbrev ops3_W : List (Ref sig .tc) := [main_v59, main_cst_10, main_v60, main_v61, main_cst_11]
/-- It writes those only. -/
theorem ops3_writes : (ops3 : List (HloOp τ sig (Elt F))).Forall fun op => op.writes ⊆ (ops3_W.map (Proc.devRef (τ := τ) .tc)).toFinset :=
  StableHlo.forall_writes_sub_of_map rfl
/-- A buffer that stretch 3 does not write keeps its contents across it. -/
theorem U3_of (d : Dev nD) (r : Ref sig .tc) (h : r ∉ ops3_W) : U3 m d (Proc.devRef .tc r) = U2 m d (Proc.devRef .tc r) :=
  StableHlo.after_of_writes_sub ops3 _ ops3_writes h
/-- The arguments are as launched after stretch 3. -/
theorem U3_args (d : Dev nD) : ∀ a ∈ args, U3 m d (Proc.devRef .tc a) = m ((d.tc : Thread nD τ).loc a) :=
  fun a ha => (U3_of m d a ((ListAll.forall_mem_of_all_decide (p := fun a => a ∉ ops3_W) (by decide +kernel)) a ha)).trans (U2_args m d a ha)
/-- The buffers that stretch 4 writes. -/
abbrev ops4_W : List (Ref sig .tc) := [main_call1_v0, main_call1_v1, main_v62]
/-- It writes those only. -/
theorem ops4_writes : (ops4 : List (HloOp τ sig (Elt F))).Forall fun op => op.writes ⊆ (ops4_W.map (Proc.devRef (τ := τ) .tc)).toFinset :=
  StableHlo.forall_writes_sub_of_map rfl
/-- A buffer that stretch 4 does not write keeps its contents across it. -/
theorem U4_of (d : Dev nD) (r : Ref sig .tc) (h : r ∉ ops4_W) : U4 m d (Proc.devRef .tc r) = U3 m d (Proc.devRef .tc r) :=
  StableHlo.after_of_writes_sub ops4 _ ops4_writes h
/-- The arguments are as launched after stretch 4. -/
theorem U4_args (d : Dev nD) : ∀ a ∈ args, U4 m d (Proc.devRef .tc a) = m ((d.tc : Thread nD τ).loc a) :=
  fun a ha => (U4_of m d a ((ListAll.forall_mem_of_all_decide (p := fun a => a ∉ ops4_W) (by decide +kernel)) a ha)).trans (U3_args m d a ha)
/-- The buffers that stretch 5 writes. -/
abbrev ops5_W : List (Ref sig .tc) := [main_v63, main_v64, main_cst_12, main_v65, main_v66, main_cst_13, main_v67, main_v68, main_cst_14, main_v69, main_v70, main_v71]
/-- It writes those only. -/
theorem ops5_writes : (ops5 : List (HloOp τ sig (Elt F))).Forall fun op => op.writes ⊆ (ops5_W.map (Proc.devRef (τ := τ) .tc)).toFinset :=
  StableHlo.forall_writes_sub_of_map rfl
/-- A buffer that stretch 5 does not write keeps its contents across it. -/
theorem U5_of (d : Dev nD) (r : Ref sig .tc) (h : r ∉ ops5_W) : U5 m d (Proc.devRef .tc r) = U4 m d (Proc.devRef .tc r) :=
  StableHlo.after_of_writes_sub ops5 _ ops5_writes h
/-- The arguments are as launched after stretch 5. -/
theorem U5_args (d : Dev nD) : ∀ a ∈ args, U5 m d (Proc.devRef .tc a) = m ((d.tc : Thread nD τ).loc a) :=
  fun a ha => (U5_of m d a ((ListAll.forall_mem_of_all_decide (p := fun a => a ∉ ops5_W) (by decide +kernel)) a ha)).trans (U4_args m d a ha)
/-- The buffers that stretch 6 writes. -/
abbrev ops6_W : List (Ref sig .tc) := [main_call2_cst, main_call2_v0, main_v72]
/-- It writes those only. -/
theorem ops6_writes : (ops6 : List (HloOp τ sig (Elt F))).Forall fun op => op.writes ⊆ (ops6_W.map (Proc.devRef (τ := τ) .tc)).toFinset :=
  StableHlo.forall_writes_sub_of_map rfl
/-- A buffer that stretch 6 does not write keeps its contents across it. -/
theorem U6_of (d : Dev nD) (r : Ref sig .tc) (h : r ∉ ops6_W) : U6 m d (Proc.devRef .tc r) = U5 m d (Proc.devRef .tc r) :=
  StableHlo.after_of_writes_sub ops6 _ ops6_writes h
/-- The arguments are as launched after stretch 6. -/
theorem U6_args (d : Dev nD) : ∀ a ∈ args, U6 m d (Proc.devRef .tc a) = m ((d.tc : Thread nD τ).loc a) :=
  fun a ha => (U6_of m d a ((ListAll.forall_mem_of_all_decide (p := fun a => a ∉ ops6_W) (by decide +kernel)) a ha)).trans (U5_args m d a ha)
/-- The buffers that stretch 7 writes. -/
abbrev ops7_W : List (Ref sig .tc) := [main_call3_v0, main_call3_cst, main_call3_c, main_call3_v1_0, main_v73]
/-- It writes those only. -/
theorem ops7_writes : (ops7 : List (HloOp τ sig (Elt F))).Forall fun op => op.writes ⊆ (ops7_W.map (Proc.devRef (τ := τ) .tc)).toFinset :=
  StableHlo.forall_writes_sub_of_map rfl
/-- A buffer that stretch 7 does not write keeps its contents across it. -/
theorem U7_of (d : Dev nD) (r : Ref sig .tc) (h : r ∉ ops7_W) : U7 m d (Proc.devRef .tc r) = U6 m d (Proc.devRef .tc r) :=
  StableHlo.after_of_writes_sub ops7 _ ops7_writes h
/-- The arguments are as launched after stretch 7. -/
theorem U7_args (d : Dev nD) : ∀ a ∈ args, U7 m d (Proc.devRef .tc a) = m ((d.tc : Thread nD τ).loc a) :=
  fun a ha => (U7_of m d a ((ListAll.forall_mem_of_all_decide (p := fun a => a ∉ ops7_W) (by decide +kernel)) a ha)).trans (U6_args m d a ha)
/-- The buffers that stretch 8 writes. -/
abbrev ops8_W : List (Ref sig .tc) := [main_call4_v0, main_call4_cst, main_call4_c, main_call4_v1_0, main_v74]
/-- It writes those only. -/
theorem ops8_writes : (ops8 : List (HloOp τ sig (Elt F))).Forall fun op => op.writes ⊆ (ops8_W.map (Proc.devRef (τ := τ) .tc)).toFinset :=
  StableHlo.forall_writes_sub_of_map rfl
/-- A buffer that stretch 8 does not write keeps its contents across it. -/
theorem U8_of (d : Dev nD) (r : Ref sig .tc) (h : r ∉ ops8_W) : U8 m d (Proc.devRef .tc r) = U7 m d (Proc.devRef .tc r) :=
  StableHlo.after_of_writes_sub ops8 _ ops8_writes h
/-- The arguments are as launched after stretch 8. -/
theorem U8_args (d : Dev nD) : ∀ a ∈ args, U8 m d (Proc.devRef .tc a) = m ((d.tc : Thread nD τ).loc a) :=
  fun a ha => (U8_of m d a ((ListAll.forall_mem_of_all_decide (p := fun a => a ∉ ops8_W) (by decide +kernel)) a ha)).trans (U7_args m d a ha)
/-- The buffers that stretch 9 writes. -/
abbrev ops9_W : List (Ref sig .tc) := [main_c, main_v75, main_v76, main_c_15, main_v77, main_v78, main_c_16, main_v79, main_v80, main_v81, main_c_17, main_v82, main_v83, main_c_18, main_v84, main_v85, main_v86, main_v87, main_v88, main_v89, main_c_19, main_v90, main_v91, main_c_20, main_v92, main_v93, main_c_21, main_v94, main_v95, main_c_22, main_v96, main_v97, main_v98, main_c_23, main_v99, main_v100, main_c_24, main_v101, main_v102, main_v103, main_v104, main_v105, main_v106, main_c_25, main_v107, main_v108, main_v109, main_v110, main_cst_26, main_v111, main_v112, main_v113, main_cst_27, main_v114, main_v115, main_v116, main_v117, main_v118, main_v119, main_v120, main_cst_28, main_v121, main_v122, main_v123, main_cst_29]
/-- It writes those only. -/
theorem ops9_writes : (ops9 : List (HloOp τ sig (Elt F))).Forall fun op => op.writes ⊆ (ops9_W.map (Proc.devRef (τ := τ) .tc)).toFinset :=
  StableHlo.forall_writes_sub_of_map rfl
/-- A buffer that stretch 9 does not write keeps its contents across it. -/
theorem U9_of (d : Dev nD) (r : Ref sig .tc) (h : r ∉ ops9_W) : U9 m d (Proc.devRef .tc r) = U8 m d (Proc.devRef .tc r) :=
  StableHlo.after_of_writes_sub ops9 _ ops9_writes h
/-- The arguments are as launched after stretch 9. -/
theorem U9_args (d : Dev nD) : ∀ a ∈ args, U9 m d (Proc.devRef .tc a) = m ((d.tc : Thread nD τ).loc a) :=
  fun a ha => (U9_of m d a ((ListAll.forall_mem_of_all_decide (p := fun a => a ∉ ops9_W) (by decide +kernel)) a ha)).trans (U8_args m d a ha)
/-- The buffers that stretch 10 writes. -/
abbrev ops10_W : List (Ref sig .tc) := [main_call5_v0, main_call5_v1, main_v124]
/-- It writes those only. -/
theorem ops10_writes : (ops10 : List (HloOp τ sig (Elt F))).Forall fun op => op.writes ⊆ (ops10_W.map (Proc.devRef (τ := τ) .tc)).toFinset :=
  StableHlo.forall_writes_sub_of_map rfl
/-- A buffer that stretch 10 does not write keeps its contents across it. -/
theorem U10_of (d : Dev nD) (r : Ref sig .tc) (h : r ∉ ops10_W) : U10 m d (Proc.devRef .tc r) = U9 m d (Proc.devRef .tc r) :=
  StableHlo.after_of_writes_sub ops10 _ ops10_writes h
/-- The arguments are as launched after stretch 10. -/
theorem U10_args (d : Dev nD) : ∀ a ∈ args, U10 m d (Proc.devRef .tc a) = m ((d.tc : Thread nD τ).loc a) :=
  fun a ha => (U10_of m d a ((ListAll.forall_mem_of_all_decide (p := fun a => a ∉ ops10_W) (by decide +kernel)) a ha)).trans (U9_args m d a ha)
/-- The buffers that stretch 11 writes. -/
abbrev ops11_W : List (Ref sig .tc) := [main_v125, main_v126, main_values, main_indices, main_v127]
/-- It writes those only. -/
theorem ops11_writes : (ops11 : List (HloOp τ sig (Elt F))).Forall fun op => op.writes ⊆ (ops11_W.map (Proc.devRef (τ := τ) .tc)).toFinset :=
  StableHlo.forall_writes_sub_of_map rfl
/-- A buffer that stretch 11 does not write keeps its contents across it. -/
theorem U11_of (d : Dev nD) (r : Ref sig .tc) (h : r ∉ ops11_W) : U11 m d (Proc.devRef .tc r) = U10 m d (Proc.devRef .tc r) :=
  StableHlo.after_of_writes_sub ops11 _ ops11_writes h
/-- The arguments are as launched after stretch 11. -/
theorem U11_args (d : Dev nD) : ∀ a ∈ args, U11 m d (Proc.devRef .tc a) = m ((d.tc : Thread nD τ).loc a) :=
  fun a ha => (U11_of m d a ((ListAll.forall_mem_of_all_decide (p := fun a => a ∉ ops11_W) (by decide +kernel)) a ha)).trans (U10_args m d a ha)
/-- The buffers that stretch 12 writes. -/
abbrev ops12_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v128]
/-- It writes those only. -/
theorem ops12_writes : (ops12 : List (HloOp τ sig (Elt F))).Forall fun op => op.writes ⊆ (ops12_W.map (Proc.devRef (τ := τ) .tc)).toFinset :=
  StableHlo.forall_writes_sub_of_map rfl
/-- A buffer that stretch 12 does not write keeps its contents across it. -/
theorem U12_of (d : Dev nD) (r : Ref sig .tc) (h : r ∉ ops12_W) : U12 m d (Proc.devRef .tc r) = U11 m d (Proc.devRef .tc r) :=
  StableHlo.after_of_writes_sub ops12 _ ops12_writes h
/-- The arguments are as launched after stretch 12. -/
theorem U12_args (d : Dev nD) : ∀ a ∈ args, U12 m d (Proc.devRef .tc a) = m ((d.tc : Thread nD τ).loc a) :=
  fun a ha => (U12_of m d a ((ListAll.forall_mem_of_all_decide (p := fun a => a ∉ ops12_W) (by decide +kernel)) a ha)).trans (U11_args m d a ha)

end Cert.ReferenceIdeal.Line

end
-- ==== Proof.Project.lean ====
module

public import proofs.«01_k».proof.Proof.Gen.KernelIdeal.Frame
public import Idealize.ShloMosaic.Lib.KernelVsHost
public import Idealize.ShloMosaic.Lib.Pipeline.ValueKit
public import Idealize.ShloMosaic.Lib.Claim

/-! # What the two kernel regions leave

Each region multiplies a feature array by the weights and adds the bias to every row. At the extended reals this is the
host's product plus the host's broadcast of the bias. -/

@[expose] public section

set_option maxRecDepth 16384

noncomputable section

namespace Cert.KernelIdeal.Project

open Idealize.ShloMosaic Idealize.ShloMosaic.TcCoe Idealize.ShloMosaic.Tactic Idealize.SL.Sem
open Cert.KernelIdeal Cert.KernelIdeal.Gen
open Cert.KernelIdeal.Facts₀ Cert.KernelIdeal.Facts

/-- A one-row matrix repeated down the rows: the kernel's broadcast of it is the host's. -/
theorem rowSpread (h : S1x256.BroadcastsInDim S2048x256 ![0, 1]) (b : FVec Ideal S1x256 .f32) :
    broadcastTo S2048x256 (shapeCast S1x256 b Gen.shapeCasts_S1x256_S1x256) Gen.broadcasts_S1x256_S2048x256
      = broadcastInDim S2048x256 ![0, 1] h b := by
  rw [shapeCast_self]
  funext i
  pointwise

variable (V : (c : Dev nD) → (b : Ref sig .tc) → Buf (Elt Ideal) ((c : Thread nD τ).loc b))

/-- The host's spelling of a projection: features times weights, plus the bias row repeated down the rows. -/
abbrev hostProj (h : S1x256.BroadcastsInDim S2048x256 ![0, 1]) (x : FVec Ideal S2048x256 .f32) (w : FVec Ideal S256x256 .f32)
    (b : FVec Ideal S1x256 .f32) : FVec Ideal S2048x256 .f32 :=
  addf (Host.dotGeneral dot_S2048x256_S256x256_S2048x256_1_0_0_1_n_n none x w) (broadcastInDim S2048x256 ![0, 1] h b)

/-- Region 0's window 0 is its whole array: an index of the block is the index of the array. -/
theorem emb0_0 (t : Fin cfg0.N) (y) : ((cfg0.win 0).blk t).view.emb y = y := by
  funext a
  apply Fin.ext
  blk_simp
  exact (congrArg (· + (y a).val) (Nat.zero_mul _)).trans (Nat.zero_add _)
/-- So its block is the array's contents at the region's entry. -/
theorem iblk0_0 (c : Dev nD) (t : Fin cfg0.N) : iblk0 V c 0 t = V c main_arg2 :=
  funext fun y => congrArg (V c main_arg2) (emb0_0 t y)
/-- Region 0's window 1 is its whole array: an index of the block is the index of the array. -/
theorem emb0_1 (t : Fin cfg0.N) (y) : ((cfg0.win 1).blk t).view.emb y = y := by
  funext a
  apply Fin.ext
  blk_simp
  exact (congrArg (· + (y a).val) (Nat.zero_mul _)).trans (Nat.zero_add _)
/-- So its block is the array's contents at the region's entry. -/
theorem iblk0_1 (c : Dev nD) (t : Fin cfg0.N) : iblk0 V c 1 t = V c main_arg7 :=
  funext fun y => congrArg (V c main_arg7) (emb0_1 t y)
/-- Region 0's window 2 is its whole array: an index of the block is the index of the array. -/
theorem emb0_2 (t : Fin cfg0.N) (y) : ((cfg0.win 2).blk t).view.emb y = y := by
  funext a
  apply Fin.ext
  blk_simp
  exact (congrArg (· + (y a).val) (Nat.zero_mul _)).trans (Nat.zero_add _)
/-- So its block is the array's contents at the region's entry. -/
theorem iblk0_2 (c : Dev nD) (t : Fin cfg0.N) : iblk0 V c 2 t = V c main_v0 :=
  funext fun y => congrArg (V c main_v0) (emb0_2 t y)
/-- Region 0's window 3 is its whole array: an index of the block is the index of the array. -/
theorem emb0_3 (t : Fin cfg0.N) (y) : ((cfg0.win 3).blk t).view.emb y = y := by
  funext a
  apply Fin.ext
  blk_simp
  exact (congrArg (· + (y a).val) (Nat.zero_mul _)).trans (Nat.zero_add _)

/-- What the kernel's body computes is the host's projection. -/
theorem pay0 (h : S1x256.BroadcastsInDim S2048x256 ![0, 1]) (x : FVec Ideal S2048x256 .f32) (w : FVec Ideal S256x256 .f32)
    (b : FVec Ideal S1x256 .f32) : k0_pay1 x w b = hostProj h x w b := by
  unfold k0_pay1 hostProj
  dsimp only
  rw [matmul_zero_eq_dotGeneral, rowSpread h]

/-- Region 0 leaves its output array at the projection of its input arrays. -/
theorem arr0 (h : S1x256.BroadcastsInDim S2048x256 ![0, 1]) (c : Dev nD) : (dat0 (F := Ideal) V c).arrAt 3 cfg0.N
    = hostProj h (V c main_arg2) (V c main_arg7) (V c main_v0) := by
  refine (dat0 V c).arrAt_eq_of_covers 3 _ (by decide +kernel) fun t hf y => ?_
  rw [emb0_3 t y]
  blk_simp
  rw [after0_3]
  frame_out
  rw [iblk0_0, iblk0_1, iblk0_2, pay0 h]

/-- Region 1's window 0 is its whole array: an index of the block is the index of the array. -/
theorem emb1_0 (t : Fin cfg1.N) (y) : ((cfg1.win 0).blk t).view.emb y = y := by
  funext a
  apply Fin.ext
  blk_simp
  exact (congrArg (· + (y a).val) (Nat.zero_mul _)).trans (Nat.zero_add _)
/-- So its block is the array's contents at the region's entry. -/
theorem iblk1_0 (c : Dev nD) (t : Fin cfg1.N) : iblk1 V c 0 t = V c main_arg3 :=
  funext fun y => congrArg (V c main_arg3) (emb1_0 t y)
/-- Region 1's window 1 is its whole array: an index of the block is the index of the array. -/
theorem emb1_1 (t : Fin cfg1.N) (y) : ((cfg1.win 1).blk t).view.emb y = y := by
  funext a
  apply Fin.ext
  blk_simp
  exact (congrArg (· + (y a).val) (Nat.zero_mul _)).trans (Nat.zero_add _)
/-- So its block is the array's contents at the region's entry. -/
theorem iblk1_1 (c : Dev nD) (t : Fin cfg1.N) : iblk1 V c 1 t = V c main_arg7 :=
  funext fun y => congrArg (V c main_arg7) (emb1_1 t y)
/-- Region 1's window 2 is its whole array: an index of the block is the index of the array. -/
theorem emb1_2 (t : Fin cfg1.N) (y) : ((cfg1.win 2).blk t).view.emb y = y := by
  funext a
  apply Fin.ext
  blk_simp
  exact (congrArg (· + (y a).val) (Nat.zero_mul _)).trans (Nat.zero_add _)
/-- So its block is the array's contents at the region's entry. -/
theorem iblk1_2 (c : Dev nD) (t : Fin cfg1.N) : iblk1 V c 2 t = V c main_v2 :=
  funext fun y => congrArg (V c main_v2) (emb1_2 t y)
/-- Region 1's window 3 is its whole array: an index of the block is the index of the array. -/
theorem emb1_3 (t : Fin cfg1.N) (y) : ((cfg1.win 3).blk t).view.emb y = y := by
  funext a
  apply Fin.ext
  blk_simp
  exact (congrArg (· + (y a).val) (Nat.zero_mul _)).trans (Nat.zero_add _)

/-- What the kernel's body computes is the host's projection. -/
theorem pay1 (h : S1x256.BroadcastsInDim S2048x256 ![0, 1]) (x : FVec Ideal S2048x256 .f32) (w : FVec Ideal S256x256 .f32)
    (b : FVec Ideal S1x256 .f32) : k1_pay1 x w b = hostProj h x w b := by
  unfold k1_pay1 hostProj
  dsimp only
  rw [matmul_zero_eq_dotGeneral, rowSpread h]

/-- Region 1 leaves its output array at the projection of its input arrays. -/
theorem arr1 (h : S1x256.BroadcastsInDim S2048x256 ![0, 1]) (c : Dev nD) : (dat1 (F := Ideal) V c).arrAt 3 cfg1.N
    = hostProj h (V c main_arg3) (V c main_arg7) (V c main_v2) := by
  refine (dat1 V c).arrAt_eq_of_covers 3 _ (by decide +kernel) fun t hf y => ?_
  rw [emb1_3 t y]
  blk_simp
  rw [after1_3]
  frame_out
  rw [iblk1_0, iblk1_1, iblk1_2, pay1 h]

end Cert.KernelIdeal.Project

end
-- ==== Proof.Tail.lean ====
module

public import proofs.«01_k».proof.Proof.Gen.KernelIdeal.Frame
public import proofs.«01_k».proof.Proof.ReferenceRun
public import Idealize.ShloMosaic.Lib.StableHlo.RunRead
public import Idealize.ShloMosaic.Lib.Claim

/-! # The shared tail, one stretch at a time

After the two projections the two programs make the same host operations over buffers named differently. Each theorem
says that one stretch, entered with equal contents at the buffers it reads, leaves equal contents at one buffer that is
read later or is a result. -/

@[expose] public section

set_option maxRecDepth 16384

noncomputable section

namespace Cert.Tail

open Idealize.ShloMosaic Idealize.ShloMosaic.TcCoe Idealize.SL.Sem
open Cert.KernelIdeal.Gen Cert.ReferenceIdeal.Line

variable {F : FTy → Type} [FloatOps F]
variable (V : Valuation Cert.KernelIdeal.τ Cert.KernelIdeal.sig (Elt F))
variable (U : Valuation Cert.ReferenceIdeal.τ Cert.ReferenceIdeal.sig (Elt F))

/-- The matching scores agree. -/
theorem s0_v31
    (h0 : (V (Proc.devRef .tc Cert.KernelIdeal.main_v1) : (⟨Cert.KernelIdeal.S2048x256, .f32⟩ : BufTy).Contents (Elt F))
      = U (Proc.devRef .tc Cert.ReferenceIdeal.main_v3))
    (h1 : (V (Proc.devRef .tc Cert.KernelIdeal.main_v3) : (⟨Cert.KernelIdeal.S2048x256, .f32⟩ : BufTy).Contents (Elt F))
      = U (Proc.devRef .tc Cert.ReferenceIdeal.main_v7)) :
    (StableHlo.after hostOps2 V (Proc.devRef .tc Cert.KernelIdeal.main_v31) : (⟨Cert.KernelIdeal.S2048x2048, .f32⟩ : BufTy).Contents (Elt F))
      = StableHlo.after ops1 U (Proc.devRef .tc Cert.ReferenceIdeal.main_v35) := by
  after_reads_simp
  simp only [h0, h1]
  all_goals rfl

/-- The squared distances between the coarse points agree. -/
theorem s0_v53
    (h0 : (V (Proc.devRef .tc Cert.KernelIdeal.main_arg0) : (⟨Cert.KernelIdeal.S2048x3, .f32⟩ : BufTy).Contents (Elt F))
      = U (Proc.devRef .tc Cert.ReferenceIdeal.main_arg0))
    (h1 : (V (Proc.devRef .tc Cert.KernelIdeal.main_arg1) : (⟨Cert.KernelIdeal.S2048x3, .f32⟩ : BufTy).Contents (Elt F))
      = U (Proc.devRef .tc Cert.ReferenceIdeal.main_arg1))
    (h2 : (V (Proc.devRef .tc Cert.KernelIdeal.main_arg6) : (⟨Cert.KernelIdeal.S4x4, .f32⟩ : BufTy).Contents (Elt F))
      = U (Proc.devRef .tc Cert.ReferenceIdeal.main_arg6)) :
    (StableHlo.after hostOps2 V (Proc.devRef .tc Cert.KernelIdeal.main_v53) : (⟨Cert.KernelIdeal.S2048x2048, .f32⟩ : BufTy).Contents (Elt F))
      = StableHlo.after ops1 U (Proc.devRef .tc Cert.ReferenceIdeal.main_v57) := by
  after_reads_simp
  simp only [h0, h1, h2]
  all_goals rfl

/-- The bound of their clipping agrees. -/
theorem s0_cst_9 :
    (StableHlo.after hostOps2 V (Proc.devRef .tc Cert.KernelIdeal.main_cst_9) : (⟨Cert.KernelIdeal.S_, .f32⟩ : BufTy).Contents (Elt F))
      = StableHlo.after ops1 U (Proc.devRef .tc Cert.ReferenceIdeal.main_cst_9) := by
  after_reads_simp

/-- The clipped squared distances agree. -/
theorem s1_v54
    (h0 : (V (Proc.devRef .tc Cert.KernelIdeal.main_cst_9) : (⟨Cert.KernelIdeal.S_, .f32⟩ : BufTy).Contents (Elt F))
      = U (Proc.devRef .tc Cert.ReferenceIdeal.main_cst_9))
    (h1 : (V (Proc.devRef .tc Cert.KernelIdeal.main_v53) : (⟨Cert.KernelIdeal.S2048x2048, .f32⟩ : BufTy).Contents (Elt F))
      = U (Proc.devRef .tc Cert.ReferenceIdeal.main_v57)) :
    (StableHlo.after hostOps2_1 V (Proc.devRef .tc Cert.KernelIdeal.main_v54) : (⟨Cert.KernelIdeal.S2048x2048, .f32⟩ : BufTy).Contents (Elt F))
      = StableHlo.after ops2 U (Proc.devRef .tc Cert.ReferenceIdeal.main_v58) := by
  after_reads_simp
  simp only [h0, h1]
  all_goals rfl

/-- Their scaled square roots agree. -/
theorem s2_v57
    (h0 : (V (Proc.devRef .tc Cert.KernelIdeal.main_v54) : (⟨Cert.KernelIdeal.S2048x2048, .f32⟩ : BufTy).Contents (Elt F))
      = U (Proc.devRef .tc Cert.ReferenceIdeal.main_v58)) :
    (StableHlo.after hostOps2_2 V (Proc.devRef .tc Cert.KernelIdeal.main_v57) : (⟨Cert.KernelIdeal.S2048x2048, .f32⟩ : BufTy).Contents (Elt F))
      = StableHlo.after ops3 U (Proc.devRef .tc Cert.ReferenceIdeal.main_v61) := by
  after_reads_simp
  simp only [h0]
  all_goals rfl

/-- The bound of that ratio agrees. -/
theorem s2_cst_11 :
    (StableHlo.after hostOps2_2 V (Proc.devRef .tc Cert.KernelIdeal.main_cst_11) : (⟨Cert.KernelIdeal.S_, .f32⟩ : BufTy).Contents (Elt F))
      = StableHlo.after ops3 U (Proc.devRef .tc Cert.ReferenceIdeal.main_cst_11) := by
  after_reads_simp

/-- The bounded ratios agree. -/
theorem s3_v58
    (h0 : (V (Proc.devRef .tc Cert.KernelIdeal.main_cst_11) : (⟨Cert.KernelIdeal.S_, .f32⟩ : BufTy).Contents (Elt F))
      = U (Proc.devRef .tc Cert.ReferenceIdeal.main_cst_11))
    (h1 : (V (Proc.devRef .tc Cert.KernelIdeal.main_v57) : (⟨Cert.KernelIdeal.S2048x2048, .f32⟩ : BufTy).Contents (Elt F))
      = U (Proc.devRef .tc Cert.ReferenceIdeal.main_v61)) :
    (StableHlo.after hostOps2_3 V (Proc.devRef .tc Cert.KernelIdeal.main_v58) : (⟨Cert.KernelIdeal.S2048x2048, .f32⟩ : BufTy).Contents (Elt F))
      = StableHlo.after ops4 U (Proc.devRef .tc Cert.ReferenceIdeal.main_v62) := by
  after_reads_simp
  simp only [h0, h1]
  all_goals rfl

/-- The overlap polynomials agree. -/
theorem s4_v67
    (h0 : (V (Proc.devRef .tc Cert.KernelIdeal.main_v58) : (⟨Cert.KernelIdeal.S2048x2048, .f32⟩ : BufTy).Contents (Elt F))
      = U (Proc.devRef .tc Cert.ReferenceIdeal.main_v62)) :
    (StableHlo.after hostOps2_4 V (Proc.devRef .tc Cert.KernelIdeal.main_v67) : (⟨Cert.KernelIdeal.S2048x2048, .f32⟩ : BufTy).Contents (Elt F))
      = StableHlo.after ops5 U (Proc.devRef .tc Cert.ReferenceIdeal.main_v71) := by
  after_reads_simp
  simp only [h0]
  all_goals rfl

/-- The overlap labels agree. -/
theorem s5_v68
    (h0 : (V (Proc.devRef .tc Cert.KernelIdeal.main_v67) : (⟨Cert.KernelIdeal.S2048x2048, .f32⟩ : BufTy).Contents (Elt F))
      = U (Proc.devRef .tc Cert.ReferenceIdeal.main_v71)) :
    (StableHlo.after hostOps2_5 V (Proc.devRef .tc Cert.KernelIdeal.main_v68) : (⟨Cert.KernelIdeal.S2048x2048, .f32⟩ : BufTy).Contents (Elt F))
      = StableHlo.after ops6 U (Proc.devRef .tc Cert.ReferenceIdeal.main_v72) := by
  after_reads_simp
  simp only [h0]
  all_goals rfl

/-- The arg-max positions of the rows agree. -/
theorem s6_v69
    (h0 : (V (Proc.devRef .tc Cert.KernelIdeal.main_v31) : (⟨Cert.KernelIdeal.S2048x2048, .f32⟩ : BufTy).Contents (Elt F))
      = U (Proc.devRef .tc Cert.ReferenceIdeal.main_v35)) :
    (StableHlo.after hostOps2_6 V (Proc.devRef .tc Cert.KernelIdeal.main_v69) : (⟨Cert.KernelIdeal.S2048, .i32⟩ : BufTy).Contents (Elt F))
      = StableHlo.after ops7 U (Proc.devRef .tc Cert.ReferenceIdeal.main_v73) := by
  after_reads_simp
  simp only [h0]
  all_goals rfl

/-- The arg-max positions of the columns agree. -/
theorem s7_v70
    (h0 : (V (Proc.devRef .tc Cert.KernelIdeal.main_v31) : (⟨Cert.KernelIdeal.S2048x2048, .f32⟩ : BufTy).Contents (Elt F))
      = U (Proc.devRef .tc Cert.ReferenceIdeal.main_v35)) :
    (StableHlo.after hostOps2_7 V (Proc.devRef .tc Cert.KernelIdeal.main_v70) : (⟨Cert.KernelIdeal.S2048, .i32⟩ : BufTy).Contents (Elt F))
      = StableHlo.after ops8 U (Proc.devRef .tc Cert.ReferenceIdeal.main_v74) := by
  after_reads_simp
  simp only [h0]
  all_goals rfl

/-- The mutual arg-max masks agree. -/
theorem s8_v105
    (h0 : (V (Proc.devRef .tc Cert.KernelIdeal.main_v69) : (⟨Cert.KernelIdeal.S2048, .i32⟩ : BufTy).Contents (Elt F))
      = U (Proc.devRef .tc Cert.ReferenceIdeal.main_v73))
    (h1 : (V (Proc.devRef .tc Cert.KernelIdeal.main_v70) : (⟨Cert.KernelIdeal.S2048, .i32⟩ : BufTy).Contents (Elt F))
      = U (Proc.devRef .tc Cert.ReferenceIdeal.main_v74)) :
    (StableHlo.after hostOps2_8 V (Proc.devRef .tc Cert.KernelIdeal.main_v105) : (⟨Cert.KernelIdeal.S2048x2048, .i1⟩ : BufTy).Contents (Elt F))
      = StableHlo.after ops9 U (Proc.devRef .tc Cert.ReferenceIdeal.main_v109) := by
  have e0 : (StableHlo.upto hostOps2_8 V 19 (Proc.devRef .tc Cert.KernelIdeal.main_v83) : (⟨Cert.KernelIdeal.S2048x1, .i32⟩ : BufTy).Contents (Elt F))
      = StableHlo.upto ops9 U 19 (Proc.devRef .tc Cert.ReferenceIdeal.main_v87) := by
    after_reads_simp
    all_goals simp only [h0, h1]
    all_goals rfl
  have e1 : (StableHlo.upto hostOps2_8 V 19 (Proc.devRef .tc Cert.KernelIdeal.main_v84) : (⟨Cert.KernelIdeal.S2048x1, .i32⟩ : BufTy).Contents (Elt F))
      = StableHlo.upto ops9 U 19 (Proc.devRef .tc Cert.ReferenceIdeal.main_v88) := by
    after_reads_simp
    all_goals simp only [h0, h1]
    all_goals rfl
  have e2 : (StableHlo.upto hostOps2_8 V 42 (Proc.devRef .tc Cert.KernelIdeal.main_v100) : (⟨Cert.KernelIdeal.S2048x1, .i32⟩ : BufTy).Contents (Elt F))
      = StableHlo.upto ops9 U 42 (Proc.devRef .tc Cert.ReferenceIdeal.main_v104) := by
    after_reads_simp
    all_goals simp only [h0, h1]
    all_goals rfl
  have e3 : (StableHlo.upto hostOps2_8 V 42 (Proc.devRef .tc Cert.KernelIdeal.main_v101) : (⟨Cert.KernelIdeal.S2048x1, .i32⟩ : BufTy).Contents (Elt F))
      = StableHlo.upto ops9 U 42 (Proc.devRef .tc Cert.ReferenceIdeal.main_v105) := by
    after_reads_simp
    all_goals simp only [h0, h1]
    all_goals rfl
  after_reads_simp
  rw [e0, e1, e2, e3]
  rfl

/-- The squared distances to the fine points agree. -/
theorem s8_v119
    (h0 : (V (Proc.devRef .tc Cert.KernelIdeal.main_arg0) : (⟨Cert.KernelIdeal.S2048x3, .f32⟩ : BufTy).Contents (Elt F))
      = U (Proc.devRef .tc Cert.ReferenceIdeal.main_arg0))
    (h1 : (V (Proc.devRef .tc Cert.KernelIdeal.main_arg4) : (⟨Cert.KernelIdeal.S32768x3, .f32⟩ : BufTy).Contents (Elt F))
      = U (Proc.devRef .tc Cert.ReferenceIdeal.main_arg4)) :
    (StableHlo.after hostOps2_8 V (Proc.devRef .tc Cert.KernelIdeal.main_v119) : (⟨Cert.KernelIdeal.S2048x32768, .f32⟩ : BufTy).Contents (Elt F))
      = StableHlo.after ops9 U (Proc.devRef .tc Cert.ReferenceIdeal.main_v123) := by
  after_reads_simp
  simp only [h0, h1]
  all_goals rfl

/-- The bound of their clipping agrees. -/
theorem s8_cst_29 :
    (StableHlo.after hostOps2_8 V (Proc.devRef .tc Cert.KernelIdeal.main_cst_29) : (⟨Cert.KernelIdeal.S_, .f32⟩ : BufTy).Contents (Elt F))
      = StableHlo.after ops9 U (Proc.devRef .tc Cert.ReferenceIdeal.main_cst_29) := by
  after_reads_simp

/-- The clipped squared distances to the fine points agree. -/
theorem s9_v120
    (h0 : (V (Proc.devRef .tc Cert.KernelIdeal.main_cst_29) : (⟨Cert.KernelIdeal.S_, .f32⟩ : BufTy).Contents (Elt F))
      = U (Proc.devRef .tc Cert.ReferenceIdeal.main_cst_29))
    (h1 : (V (Proc.devRef .tc Cert.KernelIdeal.main_v119) : (⟨Cert.KernelIdeal.S2048x32768, .f32⟩ : BufTy).Contents (Elt F))
      = U (Proc.devRef .tc Cert.ReferenceIdeal.main_v123)) :
    (StableHlo.after hostOps2_9 V (Proc.devRef .tc Cert.KernelIdeal.main_v120) : (⟨Cert.KernelIdeal.S2048x32768, .f32⟩ : BufTy).Contents (Elt F))
      = StableHlo.after ops10 U (Proc.devRef .tc Cert.ReferenceIdeal.main_v124) := by
  after_reads_simp
  simp only [h0, h1]
  all_goals rfl

/-- The nearest neighbours agree. -/
theorem s10_indices
    (h0 : (V (Proc.devRef .tc Cert.KernelIdeal.main_v120) : (⟨Cert.KernelIdeal.S2048x32768, .f32⟩ : BufTy).Contents (Elt F))
      = U (Proc.devRef .tc Cert.ReferenceIdeal.main_v124)) :
    (StableHlo.after hostOps2_10 V (Proc.devRef .tc Cert.KernelIdeal.main_indices) : (⟨Cert.KernelIdeal.S2048x64, .i32⟩ : BufTy).Contents (Elt F))
      = StableHlo.after ops11 U (Proc.devRef .tc Cert.ReferenceIdeal.main_indices) := by
  after_reads_simp
  simp only [h0]
  all_goals rfl

/-- The neighbour distances agree. -/
theorem s10_v123
    (h0 : (V (Proc.devRef .tc Cert.KernelIdeal.main_v120) : (⟨Cert.KernelIdeal.S2048x32768, .f32⟩ : BufTy).Contents (Elt F))
      = U (Proc.devRef .tc Cert.ReferenceIdeal.main_v124)) :
    (StableHlo.after hostOps2_10 V (Proc.devRef .tc Cert.KernelIdeal.main_v123) : (⟨Cert.KernelIdeal.S2048x64, .f32⟩ : BufTy).Contents (Elt F))
      = StableHlo.after ops11 U (Proc.devRef .tc Cert.ReferenceIdeal.main_v127) := by
  after_reads_simp
  simp only [h0]
  all_goals rfl

/-- The gathered features agree. -/
theorem s11_v124
    (h0 : (V (Proc.devRef .tc Cert.KernelIdeal.main_arg5) : (⟨Cert.KernelIdeal.S32768x128, .f32⟩ : BufTy).Contents (Elt F))
      = U (Proc.devRef .tc Cert.ReferenceIdeal.main_arg5))
    (h1 : (V (Proc.devRef .tc Cert.KernelIdeal.main_indices) : (⟨Cert.KernelIdeal.S2048x64, .i32⟩ : BufTy).Contents (Elt F))
      = U (Proc.devRef .tc Cert.ReferenceIdeal.main_indices)) :
    (StableHlo.after hostOps2_11 V (Proc.devRef .tc Cert.KernelIdeal.main_v124) : (⟨Cert.KernelIdeal.S2048x64x128, .f32⟩ : BufTy).Contents (Elt F))
      = StableHlo.after ops12 U (Proc.devRef .tc Cert.ReferenceIdeal.main_v128) := by
  after_reads_simp
  simp only [h0, h1]
  all_goals rfl

end Cert.Tail

end
-- ==== Proof.Tie.lean ====
module

public import proofs.«01_k».proof.Proof.KernelRun
public import proofs.«01_k».proof.Proof.Project
public import proofs.«01_k».proof.Proof.Tail

/-! # The two programs end with equal results

From memories that agree on the arguments, the contents of the kernel program's buffers and of the reference's are
followed stretch by stretch: the projected features agree, then every buffer that is read later, then the six results. -/

@[expose] public section

set_option maxRecDepth 16384

noncomputable section

namespace Cert.Tie

open Idealize.ShloMosaic Idealize.ShloMosaic.TcCoe Idealize.SL.Sem
open Cert.KernelIdeal.Gen Cert.ReferenceIdeal.Line

variable (m : (ℓ : Loc Cert.KernelIdeal.nD Cert.KernelIdeal.τ Cert.KernelIdeal.sig) → Buf (Elt Ideal) ℓ)
variable (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- A buffer that the kernel program's stretches 2 to 6 do not write is after them as before. -/
theorem kernel_keep_1_6 (r : Ref Cert.KernelIdeal.sig .tc) (h : r ∉ hostOps2_1_W ++ (hostOps2_2_W ++ (hostOps2_3_W ++ (hostOps2_4_W ++ (hostOps2_5_W))))) :
    W10 m ρ c (Proc.devRef .tc r) = W5 m ρ c (Proc.devRef .tc r) := by
  simp only [List.mem_append, not_or] at h
  exact (W10_of m ρ c r h.2.2.2.2) |>.trans (W9_of m ρ c r h.2.2.2.1) |>.trans (W8_of m ρ c r h.2.2.1) |>.trans (W7_of m ρ c r h.2.1) |>.trans (W6_of m ρ c r h.1)

/-- A buffer that the reference's stretches 2 to 6 do not write is after them as before. -/
theorem reference_keep_1_6 (r : Ref Cert.ReferenceIdeal.sig .tc) (h : r ∉ ops2_W ++ (ops3_W ++ (ops4_W ++ (ops5_W ++ (ops6_W))))) :
    U6 m' c (Proc.devRef .tc r) = U1 m' c (Proc.devRef .tc r) := by
  simp only [List.mem_append, not_or] at h
  exact (U6_of m' c r h.2.2.2.2) |>.trans (U5_of m' c r h.2.2.2.1) |>.trans (U4_of m' c r h.2.2.1) |>.trans (U3_of m' c r h.2.1) |>.trans (U2_of m' c r h.1)

/-- A buffer that the kernel program's stretches 7 to 9 do not write is after them as before. -/
theorem kernel_keep_6_9 (r : Ref Cert.KernelIdeal.sig .tc) (h : r ∉ hostOps2_6_W ++ (hostOps2_7_W ++ (hostOps2_8_W))) :
    W13 m ρ c (Proc.devRef .tc r) = W10 m ρ c (Proc.devRef .tc r) := by
  simp only [List.mem_append, not_or] at h
  exact (W13_of m ρ c r h.2.2) |>.trans (W12_of m ρ c r h.2.1) |>.trans (W11_of m ρ c r h.1)

/-- A buffer that the reference's stretches 7 to 9 do not write is after them as before. -/
theorem reference_keep_6_9 (r : Ref Cert.ReferenceIdeal.sig .tc) (h : r ∉ ops7_W ++ (ops8_W ++ (ops9_W))) :
    U9 m' c (Proc.devRef .tc r) = U6 m' c (Proc.devRef .tc r) := by
  simp only [List.mem_append, not_or] at h
  exact (U9_of m' c r h.2.2) |>.trans (U8_of m' c r h.2.1) |>.trans (U7_of m' c r h.1)

/-- A buffer that the kernel program's stretches 10 to 12 do not write is after them as before. -/
theorem kernel_keep_9_12 (r : Ref Cert.KernelIdeal.sig .tc) (h : r ∉ hostOps2_9_W ++ (hostOps2_10_W ++ (hostOps2_11_W))) :
    W16 m ρ c (Proc.devRef .tc r) = W13 m ρ c (Proc.devRef .tc r) := by
  simp only [List.mem_append, not_or] at h
  exact (W16_of m ρ c r h.2.2) |>.trans (W15_of m ρ c r h.2.1) |>.trans (W14_of m ρ c r h.1)

/-- A buffer that the reference's stretches 10 to 12 do not write is after them as before. -/
theorem reference_keep_9_12 (r : Ref Cert.ReferenceIdeal.sig .tc) (h : r ∉ ops10_W ++ (ops11_W ++ (ops12_W))) :
    U12 m' c (Proc.devRef .tc r) = U9 m' c (Proc.devRef .tc r) := by
  simp only [List.mem_append, not_or] at h
  exact (U12_of m' c r h.2.2) |>.trans (U11_of m' c r h.2.1) |>.trans (U10_of m' c r h.1)

/-- The two memories hold the same arguments on core `c`. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m' c} (h : Agree m m' c)
include h

/-- The projected reference features agree. -/
theorem feat1 : (W4 m ρ c (Proc.devRef .tc Cert.KernelIdeal.main_v1) : (⟨Cert.KernelIdeal.S2048x256, .f32⟩ : BufTy).Contents (Elt Ideal))
      = U0 m' c (Proc.devRef .tc Cert.ReferenceIdeal.main_v3) := by
  have hk : (W4 m ρ c (Proc.devRef .tc Cert.KernelIdeal.main_v1) : (⟨Cert.KernelIdeal.S2048x256, .f32⟩ : BufTy).Contents (Elt Ideal))
      = Cert.KernelIdeal.Project.hostProj Cert.ReferenceIdeal.Facts₀.bcast_S1x256_S2048x256_0_1 (W1 m ρ c (Proc.devRef .tc Cert.KernelIdeal.main_arg2))
        (W1 m ρ c (Proc.devRef .tc Cert.KernelIdeal.main_arg7)) (W1 m ρ c (Proc.devRef .tc Cert.KernelIdeal.main_v0)) :=
    (W4_of m ρ c Cert.KernelIdeal.main_v1 (by decide)).trans ((W3_of m ρ c Cert.KernelIdeal.main_v1 (by decide)).trans
      ((W2_arr m ρ c 3).trans (Cert.KernelIdeal.Project.arr0 (V1 m ρ) _ c)))
  rw [hk, W1_args m ρ c Cert.KernelIdeal.main_arg2 (by decide), W1_args m ρ c Cert.KernelIdeal.main_arg7 (by decide), ← h.2.2.1, ← h.2.2.2.2.2.2.2.1]
  unfold U0
  after_reads_simp
  rw [show W0 m ρ c (Proc.devRef .tc Cert.KernelIdeal.main_arg8) = _ from h.2.2.2.2.2.2.2.2.symm]
  rfl

/-- The projected source features agree. -/
theorem feat2 : (W4 m ρ c (Proc.devRef .tc Cert.KernelIdeal.main_v3) : (⟨Cert.KernelIdeal.S2048x256, .f32⟩ : BufTy).Contents (Elt Ideal))
      = U0 m' c (Proc.devRef .tc Cert.ReferenceIdeal.main_v7) := by
  have hk : (W4 m ρ c (Proc.devRef .tc Cert.KernelIdeal.main_v3) : (⟨Cert.KernelIdeal.S2048x256, .f32⟩ : BufTy).Contents (Elt Ideal))
      = Cert.KernelIdeal.Project.hostProj Cert.ReferenceIdeal.Facts₀.bcast_S1x256_S2048x256_0_1 (W3 m ρ c (Proc.devRef .tc Cert.KernelIdeal.main_arg3))
        (W3 m ρ c (Proc.devRef .tc Cert.KernelIdeal.main_arg7)) (W3 m ρ c (Proc.devRef .tc Cert.KernelIdeal.main_v2)) :=
    (W4_arr m ρ c 3).trans (Cert.KernelIdeal.Project.arr1 (V3 m ρ) _ c)
  rw [hk, W3_args m ρ c Cert.KernelIdeal.main_arg3 (by decide), W3_args m ρ c Cert.KernelIdeal.main_arg7 (by decide), ← h.2.2.2.1, ← h.2.2.2.2.2.2.2.1]
  unfold U0
  after_reads_simp
  rw [W2_args m ρ c Cert.KernelIdeal.main_arg8 (by decide), ← h.2.2.2.2.2.2.2.2]
  rfl

/-- The matching scores agree. -/
theorem v31 : (W5 m ρ c (Proc.devRef .tc Cert.KernelIdeal.main_v31) : (⟨Cert.KernelIdeal.S2048x2048, .f32⟩ : BufTy).Contents (Elt Ideal))
      = U1 m' c (Proc.devRef .tc Cert.ReferenceIdeal.main_v35) :=
  Tail.s0_v31 (W4 m ρ c) (U0 m' c) (feat1 ρ h) (feat2 ρ h)

/-- Argument 0 agrees where stretch 1 starts. -/
theorem arg0_at0 : (W4 m ρ c (Proc.devRef .tc Cert.KernelIdeal.main_arg0) : (⟨Cert.KernelIdeal.S2048x3, .f32⟩ : BufTy).Contents (Elt Ideal))
      = U0 m' c (Proc.devRef .tc Cert.ReferenceIdeal.main_arg0) :=
  (W4_args m ρ c Cert.KernelIdeal.main_arg0 (by decide)).trans ((h.1).symm.trans (U0_args m' c Cert.ReferenceIdeal.main_arg0 (by decide)).symm)

/-- Argument 1 agrees where stretch 1 starts. -/
theorem arg1_at0 : (W4 m ρ c (Proc.devRef .tc Cert.KernelIdeal.main_arg1) : (⟨Cert.KernelIdeal.S2048x3, .f32⟩ : BufTy).Contents (Elt Ideal))
      = U0 m' c (Proc.devRef .tc Cert.ReferenceIdeal.main_arg1) :=
  (W4_args m ρ c Cert.KernelIdeal.main_arg1 (by decide)).trans ((h.2.1).symm.trans (U0_args m' c Cert.ReferenceIdeal.main_arg1 (by decide)).symm)

/-- Argument 6 agrees where stretch 1 starts. -/
theorem arg6_at0 : (W4 m ρ c (Proc.devRef .tc Cert.KernelIdeal.main_arg6) : (⟨Cert.KernelIdeal.S4x4, .f32⟩ : BufTy).Contents (Elt Ideal))
      = U0 m' c (Proc.devRef .tc Cert.ReferenceIdeal.main_arg6) :=
  (W4_args m ρ c Cert.KernelIdeal.main_arg6 (by decide)).trans ((h.2.2.2.2.2.2.1).symm.trans (U0_args m' c Cert.ReferenceIdeal.main_arg6 (by decide)).symm)

/-- The squared distances between the coarse points agree. -/
theorem v53 : (W5 m ρ c (Proc.devRef .tc Cert.KernelIdeal.main_v53) : (⟨Cert.KernelIdeal.S2048x2048, .f32⟩ : BufTy).Contents (Elt Ideal))
      = U1 m' c (Proc.devRef .tc Cert.ReferenceIdeal.main_v57) :=
  Tail.s0_v53 (W4 m ρ c) (U0 m' c) (arg0_at0 ρ h) (arg1_at0 ρ h) (arg6_at0 ρ h)

/-- The bound of their clipping agrees. -/
theorem cst_9 : (W5 m ρ c (Proc.devRef .tc Cert.KernelIdeal.main_cst_9) : (⟨Cert.KernelIdeal.S_, .f32⟩ : BufTy).Contents (Elt Ideal))
      = U1 m' c (Proc.devRef .tc Cert.ReferenceIdeal.main_cst_9) :=
  Tail.s0_cst_9 (W4 m ρ c) (U0 m' c)

/-- The clipped squared distances agree. -/
theorem v54 : (W6 m ρ c (Proc.devRef .tc Cert.KernelIdeal.main_v54) : (⟨Cert.KernelIdeal.S2048x2048, .f32⟩ : BufTy).Contents (Elt Ideal))
      = U2 m' c (Proc.devRef .tc Cert.ReferenceIdeal.main_v58) :=
  Tail.s1_v54 (W5 m ρ c) (U1 m' c) (cst_9 ρ h) (v53 ρ h)

/-- Their scaled square roots agree. -/
theorem v57 : (W7 m ρ c (Proc.devRef .tc Cert.KernelIdeal.main_v57) : (⟨Cert.KernelIdeal.S2048x2048, .f32⟩ : BufTy).Contents (Elt Ideal))
      = U3 m' c (Proc.devRef .tc Cert.ReferenceIdeal.main_v61) :=
  Tail.s2_v57 (W6 m ρ c) (U2 m' c) (v54 ρ h)

/-- The bound of that ratio agrees. -/
theorem cst_11 : (W7 m ρ c (Proc.devRef .tc Cert.KernelIdeal.main_cst_11) : (⟨Cert.KernelIdeal.S_, .f32⟩ : BufTy).Contents (Elt Ideal))
      = U3 m' c (Proc.devRef .tc Cert.ReferenceIdeal.main_cst_11) :=
  Tail.s2_cst_11 (W6 m ρ c) (U2 m' c)

/-- The bounded ratios agree. -/
theorem v58 : (W8 m ρ c (Proc.devRef .tc Cert.KernelIdeal.main_v58) : (⟨Cert.KernelIdeal.S2048x2048, .f32⟩ : BufTy).Contents (Elt Ideal))
      = U4 m' c (Proc.devRef .tc Cert.ReferenceIdeal.main_v62) :=
  Tail.s3_v58 (W7 m ρ c) (U3 m' c) (cst_11 ρ h) (v57 ρ h)

/-- The overlap polynomials agree. -/
theorem v67 : (W9 m ρ c (Proc.devRef .tc Cert.KernelIdeal.main_v67) : (⟨Cert.KernelIdeal.S2048x2048, .f32⟩ : BufTy).Contents (Elt Ideal))
      = U5 m' c (Proc.devRef .tc Cert.ReferenceIdeal.main_v71) :=
  Tail.s4_v67 (W8 m ρ c) (U4 m' c) (v58 ρ h)

/-- The overlap labels agree. -/
theorem v68 : (W10 m ρ c (Proc.devRef .tc Cert.KernelIdeal.main_v68) : (⟨Cert.KernelIdeal.S2048x2048, .f32⟩ : BufTy).Contents (Elt Ideal))
      = U6 m' c (Proc.devRef .tc Cert.ReferenceIdeal.main_v72) :=
  Tail.s5_v68 (W9 m ρ c) (U5 m' c) (v67 ρ h)

/-- Stretches 2 to 6 leave the matching scores alone. -/
theorem v31_at6 : (W10 m ρ c (Proc.devRef .tc Cert.KernelIdeal.main_v31) : (⟨Cert.KernelIdeal.S2048x2048, .f32⟩ : BufTy).Contents (Elt Ideal))
      = U6 m' c (Proc.devRef .tc Cert.ReferenceIdeal.main_v35) :=
  (kernel_keep_1_6 m ρ c Cert.KernelIdeal.main_v31 (by decide)).trans ((v31 ρ h).trans (reference_keep_1_6 m' c Cert.ReferenceIdeal.main_v35 (by decide)).symm)

/-- The arg-max positions of the rows agree. -/
theorem v69 : (W11 m ρ c (Proc.devRef .tc Cert.KernelIdeal.main_v69) : (⟨Cert.KernelIdeal.S2048, .i32⟩ : BufTy).Contents (Elt Ideal))
      = U7 m' c (Proc.devRef .tc Cert.ReferenceIdeal.main_v73) :=
  Tail.s6_v69 (W10 m ρ c) (U6 m' c) (v31_at6 ρ h)

/-- Stretch 7 leaves the matching scores alone. -/
theorem v31_at7 : (W11 m ρ c (Proc.devRef .tc Cert.KernelIdeal.main_v31) : (⟨Cert.KernelIdeal.S2048x2048, .f32⟩ : BufTy).Contents (Elt Ideal))
      = U7 m' c (Proc.devRef .tc Cert.ReferenceIdeal.main_v35) :=
  (W11_of m ρ c Cert.KernelIdeal.main_v31 (by decide)).trans ((v31_at6 ρ h).trans (U7_of m' c Cert.ReferenceIdeal.main_v35 (by decide)).symm)

/-- The arg-max positions of the columns agree. -/
theorem v70 : (W12 m ρ c (Proc.devRef .tc Cert.KernelIdeal.main_v70) : (⟨Cert.KernelIdeal.S2048, .i32⟩ : BufTy).Contents (Elt Ideal))
      = U8 m' c (Proc.devRef .tc Cert.ReferenceIdeal.main_v74) :=
  Tail.s7_v70 (W11 m ρ c) (U7 m' c) (v31_at7 ρ h)

/-- Stretch 8 leaves the rows' arg-max positions alone. -/
theorem v69_at8 : (W12 m ρ c (Proc.devRef .tc Cert.KernelIdeal.main_v69) : (⟨Cert.KernelIdeal.S2048, .i32⟩ : BufTy).Contents (Elt Ideal))
      = U8 m' c (Proc.devRef .tc Cert.ReferenceIdeal.main_v73) :=
  (W12_of m ρ c Cert.KernelIdeal.main_v69 (by decide)).trans ((v69 ρ h).trans (U8_of m' c Cert.ReferenceIdeal.main_v73 (by decide)).symm)

/-- The mutual arg-max masks agree. -/
theorem v105 : (W13 m ρ c (Proc.devRef .tc Cert.KernelIdeal.main_v105) : (⟨Cert.KernelIdeal.S2048x2048, .i1⟩ : BufTy).Contents (Elt Ideal))
      = U9 m' c (Proc.devRef .tc Cert.ReferenceIdeal.main_v109) :=
  Tail.s8_v105 (W12 m ρ c) (U8 m' c) (v69_at8 ρ h) (v70 ρ h)

/-- Argument 0 agrees where stretch 9 starts. -/
theorem arg0_at8 : (W12 m ρ c (Proc.devRef .tc Cert.KernelIdeal.main_arg0) : (⟨Cert.KernelIdeal.S2048x3, .f32⟩ : BufTy).Contents (Elt Ideal))
      = U8 m' c (Proc.devRef .tc Cert.ReferenceIdeal.main_arg0) :=
  (W12_args m ρ c Cert.KernelIdeal.main_arg0 (by decide)).trans ((h.1).symm.trans (U8_args m' c Cert.ReferenceIdeal.main_arg0 (by decide)).symm)

/-- Argument 4 agrees where stretch 9 starts. -/
theorem arg4_at8 : (W12 m ρ c (Proc.devRef .tc Cert.KernelIdeal.main_arg4) : (⟨Cert.KernelIdeal.S32768x3, .f32⟩ : BufTy).Contents (Elt Ideal))
      = U8 m' c (Proc.devRef .tc Cert.ReferenceIdeal.main_arg4) :=
  (W12_args m ρ c Cert.KernelIdeal.main_arg4 (by decide)).trans ((h.2.2.2.2.1).symm.trans (U8_args m' c Cert.ReferenceIdeal.main_arg4 (by decide)).symm)

/-- The squared distances to the fine points agree. -/
theorem v119 : (W13 m ρ c (Proc.devRef .tc Cert.KernelIdeal.main_v119) : (⟨Cert.KernelIdeal.S2048x32768, .f32⟩ : BufTy).Contents (Elt Ideal))
      = U9 m' c (Proc.devRef .tc Cert.ReferenceIdeal.main_v123) :=
  Tail.s8_v119 (W12 m ρ c) (U8 m' c) (arg0_at8 ρ h) (arg4_at8 ρ h)

/-- The bound of their clipping agrees. -/
theorem cst_29 : (W13 m ρ c (Proc.devRef .tc Cert.KernelIdeal.main_cst_29) : (⟨Cert.KernelIdeal.S_, .f32⟩ : BufTy).Contents (Elt Ideal))
      = U9 m' c (Proc.devRef .tc Cert.ReferenceIdeal.main_cst_29) :=
  Tail.s8_cst_29 (W12 m ρ c) (U8 m' c)

/-- The clipped squared distances to the fine points agree. -/
theorem v120 : (W14 m ρ c (Proc.devRef .tc Cert.KernelIdeal.main_v120) : (⟨Cert.KernelIdeal.S2048x32768, .f32⟩ : BufTy).Contents (Elt Ideal))
      = U10 m' c (Proc.devRef .tc Cert.ReferenceIdeal.main_v124) :=
  Tail.s9_v120 (W13 m ρ c) (U9 m' c) (cst_29 ρ h) (v119 ρ h)

/-- The nearest neighbours agree. -/
theorem indices : (W15 m ρ c (Proc.devRef .tc Cert.KernelIdeal.main_indices) : (⟨Cert.KernelIdeal.S2048x64, .i32⟩ : BufTy).Contents (Elt Ideal))
      = U11 m' c (Proc.devRef .tc Cert.ReferenceIdeal.main_indices) :=
  Tail.s10_indices (W14 m ρ c) (U10 m' c) (v120 ρ h)

/-- The neighbour distances agree. -/
theorem v123 : (W15 m ρ c (Proc.devRef .tc Cert.KernelIdeal.main_v123) : (⟨Cert.KernelIdeal.S2048x64, .f32⟩ : BufTy).Contents (Elt Ideal))
      = U11 m' c (Proc.devRef .tc Cert.ReferenceIdeal.main_v127) :=
  Tail.s10_v123 (W14 m ρ c) (U10 m' c) (v120 ρ h)

/-- Argument 5 agrees where stretch 12 starts. -/
theorem arg5_at11 : (W15 m ρ c (Proc.devRef .tc Cert.KernelIdeal.main_arg5) : (⟨Cert.KernelIdeal.S32768x128, .f32⟩ : BufTy).Contents (Elt Ideal))
      = U11 m' c (Proc.devRef .tc Cert.ReferenceIdeal.main_arg5) :=
  (W15_args m ρ c Cert.KernelIdeal.main_arg5 (by decide)).trans ((h.2.2.2.2.2.1).symm.trans (U11_args m' c Cert.ReferenceIdeal.main_arg5 (by decide)).symm)

/-- The gathered features agree. -/
theorem v124 : (W16 m ρ c (Proc.devRef .tc Cert.KernelIdeal.main_v124) : (⟨Cert.KernelIdeal.S2048x64x128, .f32⟩ : BufTy).Contents (Elt Ideal))
      = U12 m' c (Proc.devRef .tc Cert.ReferenceIdeal.main_v128) :=
  Tail.s11_v124 (W15 m ρ c) (U11 m' c) (arg5_at11 ρ h) (indices ρ h)

/-- Stretch 8 leaves the matching scores alone. -/
theorem v31_at8 : (W12 m ρ c (Proc.devRef .tc Cert.KernelIdeal.main_v31) : (⟨Cert.KernelIdeal.S2048x2048, .f32⟩ : BufTy).Contents (Elt Ideal))
      = U8 m' c (Proc.devRef .tc Cert.ReferenceIdeal.main_v35) :=
  (W12_of m ρ c Cert.KernelIdeal.main_v31 (by decide)).trans ((v31_at7 ρ h).trans (U8_of m' c Cert.ReferenceIdeal.main_v35 (by decide)).symm)

/-- Stretch 9 leaves the matching scores alone. -/
theorem v31_at9 : (W13 m ρ c (Proc.devRef .tc Cert.KernelIdeal.main_v31) : (⟨Cert.KernelIdeal.S2048x2048, .f32⟩ : BufTy).Contents (Elt Ideal))
      = U9 m' c (Proc.devRef .tc Cert.ReferenceIdeal.main_v35) :=
  (W13_of m ρ c Cert.KernelIdeal.main_v31 (by decide)).trans ((v31_at8 ρ h).trans (U9_of m' c Cert.ReferenceIdeal.main_v35 (by decide)).symm)

/-- Stretches 10 to 12 leave the matching scores alone. -/
theorem v31_at12 : (W16 m ρ c (Proc.devRef .tc Cert.KernelIdeal.main_v31) : (⟨Cert.KernelIdeal.S2048x2048, .f32⟩ : BufTy).Contents (Elt Ideal))
      = U12 m' c (Proc.devRef .tc Cert.ReferenceIdeal.main_v35) :=
  (kernel_keep_9_12 m ρ c Cert.KernelIdeal.main_v31 (by decide)).trans ((v31_at9 ρ h).trans (reference_keep_9_12 m' c Cert.ReferenceIdeal.main_v35 (by decide)).symm)

/-- Stretches 7 to 9 leave the overlap labels alone. -/
theorem v68_at9 : (W13 m ρ c (Proc.devRef .tc Cert.KernelIdeal.main_v68) : (⟨Cert.KernelIdeal.S2048x2048, .f32⟩ : BufTy).Contents (Elt Ideal))
      = U9 m' c (Proc.devRef .tc Cert.ReferenceIdeal.main_v72) :=
  (kernel_keep_6_9 m ρ c Cert.KernelIdeal.main_v68 (by decide)).trans ((v68 ρ h).trans (reference_keep_6_9 m' c Cert.ReferenceIdeal.main_v72 (by decide)).symm)

/-- Stretches 10 to 12 leave the overlap labels alone. -/
theorem v68_at12 : (W16 m ρ c (Proc.devRef .tc Cert.KernelIdeal.main_v68) : (⟨Cert.KernelIdeal.S2048x2048, .f32⟩ : BufTy).Contents (Elt Ideal))
      = U12 m' c (Proc.devRef .tc Cert.ReferenceIdeal.main_v72) :=
  (kernel_keep_9_12 m ρ c Cert.KernelIdeal.main_v68 (by decide)).trans ((v68_at9 ρ h).trans (reference_keep_9_12 m' c Cert.ReferenceIdeal.main_v72 (by decide)).symm)

/-- Stretches 10 to 12 leave the masks alone. -/
theorem v105_at12 : (W16 m ρ c (Proc.devRef .tc Cert.KernelIdeal.main_v105) : (⟨Cert.KernelIdeal.S2048x2048, .i1⟩ : BufTy).Contents (Elt Ideal))
      = U12 m' c (Proc.devRef .tc Cert.ReferenceIdeal.main_v109) :=
  (kernel_keep_9_12 m ρ c Cert.KernelIdeal.main_v105 (by decide)).trans ((v105 ρ h).trans (reference_keep_9_12 m' c Cert.ReferenceIdeal.main_v109 (by decide)).symm)

/-- Stretch 12 leaves the nearest neighbours alone. -/
theorem indices_at12 : (W16 m ρ c (Proc.devRef .tc Cert.KernelIdeal.main_indices) : (⟨Cert.KernelIdeal.S2048x64, .i32⟩ : BufTy).Contents (Elt Ideal))
      = U12 m' c (Proc.devRef .tc Cert.ReferenceIdeal.main_indices) :=
  (W16_of m ρ c Cert.KernelIdeal.main_indices (by decide)).trans ((indices ρ h).trans (U12_of m' c Cert.ReferenceIdeal.main_indices (by decide)).symm)

/-- Stretch 12 leaves the neighbour distances alone. -/
theorem v123_at12 : (W16 m ρ c (Proc.devRef .tc Cert.KernelIdeal.main_v123) : (⟨Cert.KernelIdeal.S2048x64, .f32⟩ : BufTy).Contents (Elt Ideal))
      = U12 m' c (Proc.devRef .tc Cert.ReferenceIdeal.main_v127) :=
  (W16_of m ρ c Cert.KernelIdeal.main_v123 (by decide)).trans ((v123 ρ h).trans (U12_of m' c Cert.ReferenceIdeal.main_v127 (by decide)).symm)

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.ReferenceRun
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The reference leaves its arguments as launched, and it has no semaphore whose counter could end elsewhere than at zero. -/
theorem reference_quiescent : Cert.quiescent_ReferenceIdeal (hReferenceIdeal := Cert.ReferenceIdeal.Gen.facts) := fun m ρ _ =>
  θ_run_mono (Cert.ReferenceIdeal.Line.run m ρ) fun r hr => ⟨fun c =>
    ⟨(hr c Cert.ReferenceIdeal.main_arg0).trans (Cert.ReferenceIdeal.Line.U12_args m c _ (by decide)),
     (hr c Cert.ReferenceIdeal.main_arg1).trans (Cert.ReferenceIdeal.Line.U12_args m c _ (by decide)),
     (hr c Cert.ReferenceIdeal.main_arg2).trans (Cert.ReferenceIdeal.Line.U12_args m c _ (by decide)),
     (hr c Cert.ReferenceIdeal.main_arg3).trans (Cert.ReferenceIdeal.Line.U12_args m c _ (by decide)),
     (hr c Cert.ReferenceIdeal.main_arg4).trans (Cert.ReferenceIdeal.Line.U12_args m c _ (by decide)),
     (hr c Cert.ReferenceIdeal.main_arg5).trans (Cert.ReferenceIdeal.Line.U12_args m c _ (by decide)),
     (hr c Cert.ReferenceIdeal.main_arg6).trans (Cert.ReferenceIdeal.Line.U12_args m c _ (by decide)),
     (hr c Cert.ReferenceIdeal.main_arg7).trans (Cert.ReferenceIdeal.Line.U12_args m c _ (by decide)),
     (hr c Cert.ReferenceIdeal.main_arg8).trans (Cert.ReferenceIdeal.Line.U12_args m c _ (by decide))⟩,
    funext fun s => nomatch s⟩

/-- At the extended reals, from memories that agree on the arguments, the kernel program and the reference end with the
    same six results and with their arguments as launched. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W16 m g c (Proc.devRef .tc Cert.KernelIdeal.main_v31),
    fun c => Cert.KernelIdeal.Gen.W16 m g c (Proc.devRef .tc Cert.KernelIdeal.main_v68),
    fun c => Cert.KernelIdeal.Gen.W16 m g c (Proc.devRef .tc Cert.KernelIdeal.main_v105),
    fun c => Cert.KernelIdeal.Gen.W16 m g c (Proc.devRef .tc Cert.KernelIdeal.main_indices),
    fun c => Cert.KernelIdeal.Gen.W16 m g c (Proc.devRef .tc Cert.KernelIdeal.main_v123),
    fun c => Cert.KernelIdeal.Gen.W16 m g c (Proc.devRef .tc Cert.KernelIdeal.main_v124), ?_, ?_⟩
  · exact θ_run_mono (Cert.KernelIdeal.Run.run m g) fun r hr c =>
      ⟨hr c Cert.KernelIdeal.main_v31 (by decide),
       hr c Cert.KernelIdeal.main_v68 (by decide),
       hr c Cert.KernelIdeal.main_v105 (by decide),
       hr c Cert.KernelIdeal.main_indices (by decide),
       hr c Cert.KernelIdeal.main_v123 (by decide),
       hr c Cert.KernelIdeal.main_v124 (by decide),
       (hr c Cert.KernelIdeal.main_arg0 (by decide)).trans (Cert.KernelIdeal.Gen.W16_main_arg0 m g c),
       (hr c Cert.KernelIdeal.main_arg1 (by decide)).trans (Cert.KernelIdeal.Gen.W16_main_arg1 m g c),
       (hr c Cert.KernelIdeal.main_arg2 (by decide)).trans (Cert.KernelIdeal.Gen.W16_main_arg2 m g c),
       (hr c Cert.KernelIdeal.main_arg3 (by decide)).trans (Cert.KernelIdeal.Gen.W16_main_arg3 m g c),
       (hr c Cert.KernelIdeal.main_arg4 (by decide)).trans (Cert.KernelIdeal.Gen.W16_main_arg4 m g c),
       (hr c Cert.KernelIdeal.main_arg5 (by decide)).trans (Cert.KernelIdeal.Gen.W16_main_arg5 m g c),
       (hr c Cert.KernelIdeal.main_arg6 (by decide)).trans (Cert.KernelIdeal.Gen.W16_main_arg6 m g c),
       (hr c Cert.KernelIdeal.main_arg7 (by decide)).trans (Cert.KernelIdeal.Gen.W16_main_arg7 m g c),
       (hr c Cert.KernelIdeal.main_arg8 (by decide)).trans (Cert.KernelIdeal.Gen.W16_main_arg8 m g c)⟩
  · exact θ_run_mono (Cert.ReferenceIdeal.Line.run m' g') fun r hr c =>
      ⟨(hr c Cert.ReferenceIdeal.main_v35).trans (Cert.Tie.v31_at12 g (hagree c)).symm,
       (hr c Cert.ReferenceIdeal.main_v72).trans (Cert.Tie.v68_at12 g (hagree c)).symm,
       (hr c Cert.ReferenceIdeal.main_v109).trans (Cert.Tie.v105_at12 g (hagree c)).symm,
       (hr c Cert.ReferenceIdeal.main_indices).trans (Cert.Tie.indices_at12 g (hagree c)).symm,
       (hr c Cert.ReferenceIdeal.main_v127).trans (Cert.Tie.v123_at12 g (hagree c)).symm,
       (hr c Cert.ReferenceIdeal.main_v128).trans (Cert.Tie.v124 g (hagree c)).symm,
       (hr c Cert.ReferenceIdeal.main_arg0).trans (Cert.ReferenceIdeal.Line.U12_args m' c _ (by decide)),
       (hr c Cert.ReferenceIdeal.main_arg1).trans (Cert.ReferenceIdeal.Line.U12_args m' c _ (by decide)),
       (hr c Cert.ReferenceIdeal.main_arg2).trans (Cert.ReferenceIdeal.Line.U12_args m' c _ (by decide)),
       (hr c Cert.ReferenceIdeal.main_arg3).trans (Cert.ReferenceIdeal.Line.U12_args m' c _ (by decide)),
       (hr c Cert.ReferenceIdeal.main_arg4).trans (Cert.ReferenceIdeal.Line.U12_args m' c _ (by decide)),
       (hr c Cert.ReferenceIdeal.main_arg5).trans (Cert.ReferenceIdeal.Line.U12_args m' c _ (by decide)),
       (hr c Cert.ReferenceIdeal.main_arg6).trans (Cert.ReferenceIdeal.Line.U12_args m' c _ (by decide)),
       (hr c Cert.ReferenceIdeal.main_arg7).trans (Cert.ReferenceIdeal.Line.U12_args m' c _ (by decide)),
       (hr c Cert.ReferenceIdeal.main_arg8).trans (Cert.ReferenceIdeal.Line.U12_args m' c _ (by decide))⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent, trivial, algebraic⟩

end Cert.Proof
end
